-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x512 : Shape := ⟨2, ![1024, 512]⟩
abbrev S16 : Shape := ⟨1, ![16]⟩
abbrev S_ : Shape := ⟨0, ![]⟩
abbrev S1 : Shape := ⟨1, ![1]⟩
abbrev S16x512 : Shape := ⟨2, ![16, 512]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x1024, .f32⟩
  | .hbm, ⟨1, _⟩ => ⟨S1024x512, .f32⟩
  | .local _ .vmem, ⟨0, _⟩ => ⟨S512x1024, .f32⟩
  | .local _ .vmem, ⟨1, _⟩ => ⟨S1024x512, .f32⟩
  | _, _ => ⟨S512x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v13 : BitVec 32 := Scalar.muli v6 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_15 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_13 : BitVec 32 := 512#32
  let v20 : BitVec 32 := Scalar.muli v5 c512_i32_13
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_14 : BitVec 32 := 256#32
  let v21 : BitVec 32 := Scalar.muli v2 c256_i32_14
  let v22 : BitVec 32 := Scalar.addi v20 v21
  let v23 : BitVec 32 := Scalar.addi v22 c0_i32_15
  let c0_i32_21 : BitVec 32 := 0#32
  ![v23.toNat, 0]
def k0_off2 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v17 : BitVec 32 := Scalar.muli v2 c256_i32
  let v18 : BitVec 32 := Scalar.addi v17 c0_i32_12
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32 : BitVec 32 := 512#32
  let v19 : BitVec 32 := Scalar.muli v7 c512_i32
  ![v18.toNat, v19.toNat]
def k0_dev3 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v24 : BitVec 32 := Scalar.muli v2 c2_i32_18
  let v25 : BitVec 32 := Scalar.addi c0_i32_19 v24
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_20 : BitVec 32 := 1#32
  let v26 : BitVec 32 := Scalar.muli v7 c1_i32_20
  let v27 : BitVec 32 := Scalar.addi v25 v26
  v27.toNat
def k0_dev4 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v41 : BitVec 32 := Scalar.muli v2 c2_i32_29
  let v42 : BitVec 32 := Scalar.addi c0_i32_30 v41
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_31 : BitVec 32 := 1#32
  let v43 : BitVec 32 := Scalar.muli v7 c1_i32_31
  let v44 : BitVec 32 := Scalar.addi v42 v43
  v44.toNat
def k0_dev5 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v58 : BitVec 32 := Scalar.muli v2 c2_i32_40
  let v59 : BitVec 32 := Scalar.addi c0_i32_41 v58
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v60 : BitVec 32 := Scalar.muli v7 c1_i32_42
  let v61 : BitVec 32 := Scalar.addi v59 v60
  v61.toNat
def k0_dev6 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v75 : BitVec 32 := Scalar.muli v2 c2_i32_50
  let v76 : BitVec 32 := Scalar.addi c0_i32_51 v75
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_52 : BitVec 32 := 1#32
  let v77 : BitVec 32 := Scalar.muli v7 c1_i32_52
  let v78 : BitVec 32 := Scalar.addi v76 v77
  v78.toNat
def k0_dev7 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v92 : BitVec 32 := Scalar.muli v2 c2_i32_60
  let v93 : BitVec 32 := Scalar.addi c0_i32_61 v92
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_62 : BitVec 32 := 1#32
  let v94 : BitVec 32 := Scalar.muli v7 c1_i32_62
  let v95 : BitVec 32 := Scalar.addi v93 v94
  v95.toNat
def k0_dev8 (d0 : Dev nD) : Nat :=
  let c0_i32_71 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_70 : BitVec 32 := 2#32
  let v109 : BitVec 32 := Scalar.muli v2 c2_i32_70
  let v110 : BitVec 32 := Scalar.addi c0_i32_71 v109
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_72 : BitVec 32 := 1#32
  let v111 : BitVec 32 := Scalar.muli v7 c1_i32_72
  let v112 : BitVec 32 := Scalar.addi v110 v111
  v112.toNat
def k0_dev9 (d0 : Dev nD) : Nat :=
  let c0_i32_81 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_80 : BitVec 32 := 2#32
  let v126 : BitVec 32 := Scalar.muli v2 c2_i32_80
  let v127 : BitVec 32 := Scalar.addi c0_i32_81 v126
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_82 : BitVec 32 := 1#32
  let v128 : BitVec 32 := Scalar.muli v7 c1_i32_82
  let v129 : BitVec 32 := Scalar.addi v127 v128
  v129.toNat
def k0_dev10 (d0 : Dev nD) : Nat :=
  let c0_i32_91 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_90 : BitVec 32 := 2#32
  let v143 : BitVec 32 := Scalar.muli v2 c2_i32_90
  let v144 : BitVec 32 := Scalar.addi c0_i32_91 v143
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_92 : BitVec 32 := 1#32
  let v145 : BitVec 32 := Scalar.muli v7 c1_i32_92
  let v146 : BitVec 32 := Scalar.addi v144 v145
  v146.toNat
def k0_dev11 (d0 : Dev nD) : Nat :=
  let c0_i32_101 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_100 : BitVec 32 := 2#32
  let v160 : BitVec 32 := Scalar.muli v2 c2_i32_100
  let v161 : BitVec 32 := Scalar.addi c0_i32_101 v160
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_102 : BitVec 32 := 1#32
  let v162 : BitVec 32 := Scalar.muli v7 c1_i32_102
  let v163 : BitVec 32 := Scalar.addi v161 v162
  v163.toNat
def k0_dev12 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v177 : BitVec 32 := Scalar.muli v2 c2_i32_110
  let v178 : BitVec 32 := Scalar.addi c0_i32_111 v177
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v179 : BitVec 32 := Scalar.muli v7 c1_i32_112
  let v180 : BitVec 32 := Scalar.addi v178 v179
  v180.toNat
def k0_dev13 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v194 : BitVec 32 := Scalar.muli v2 c2_i32_120
  let v195 : BitVec 32 := Scalar.addi c0_i32_121 v194
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_122 : BitVec 32 := 1#32
  let v196 : BitVec 32 := Scalar.muli v7 c1_i32_122
  let v197 : BitVec 32 := Scalar.addi v195 v196
  v197.toNat
def k0_dev14 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v211 : BitVec 32 := Scalar.muli v2 c2_i32_130
  let v212 : BitVec 32 := Scalar.addi c0_i32_131 v211
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_132 : BitVec 32 := 1#32
  let v213 : BitVec 32 := Scalar.muli v7 c1_i32_132
  let v214 : BitVec 32 := Scalar.addi v212 v213
  v214.toNat
def k0_dev15 (d0 : Dev nD) : Nat :=
  let c0_i32_141 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_140 : BitVec 32 := 2#32
  let v228 : BitVec 32 := Scalar.muli v2 c2_i32_140
  let v229 : BitVec 32 := Scalar.addi c0_i32_141 v228
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_142 : BitVec 32 := 1#32
  let v230 : BitVec 32 := Scalar.muli v7 c1_i32_142
  let v231 : BitVec 32 := Scalar.addi v229 v230
  v231.toNat
def k0_dev16 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v245 : BitVec 32 := Scalar.muli v2 c2_i32_150
  let v246 : BitVec 32 := Scalar.addi c0_i32_151 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_152 : BitVec 32 := 1#32
  let v247 : BitVec 32 := Scalar.muli v7 c1_i32_152
  let v248 : BitVec 32 := Scalar.addi v246 v247
  v248.toNat
def k0_dev17 (d0 : Dev nD) : Nat :=
  let c0_i32_161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_160 : BitVec 32 := 2#32
  let v262 : BitVec 32 := Scalar.muli v2 c2_i32_160
  let v263 : BitVec 32 := Scalar.addi c0_i32_161 v262
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_162 : BitVec 32 := 1#32
  let v264 : BitVec 32 := Scalar.muli v7 c1_i32_162
  let v265 : BitVec 32 := Scalar.addi v263 v264
  v265.toNat
def k0_dev18 (d0 : Dev nD) : Nat :=
  let c0_i32_171 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_170 : BitVec 32 := 2#32
  let v279 : BitVec 32 := Scalar.muli v2 c2_i32_170
  let v280 : BitVec 32 := Scalar.addi c0_i32_171 v279
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_172 : BitVec 32 := 1#32
  let v281 : BitVec 32 := Scalar.muli v7 c1_i32_172
  let v282 : BitVec 32 := Scalar.addi v280 v281
  v282.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_175 : BitVec 32 := 512#32
  let v290 : BitVec 32 := Scalar.muli v5 c512_i32_175
  let c0_i32_176 : BitVec 32 := 0#32
  ![v290.toNat, 0]
def k0_off4 (d0 : Dev nD) : Fin 2 → Nat :=
  let c0_i32_177 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_174 : BitVec 32 := 512#32
  let v289 : BitVec 32 := Scalar.muli v5 c512_i32_174
  ![0, v289.toNat]
def k0_off5 (d0 : Dev nD) (c0_i32_186 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32_184 : BitVec 32 := 512#32
  let v301 : BitVec 32 := Scalar.muli v7 c512_i32_184
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_185 : BitVec 32 := 256#32
  let v302 : BitVec 32 := Scalar.muli v2 c256_i32_185
  let v303 : BitVec 32 := Scalar.addi v301 v302
  let v304 : BitVec 32 := Scalar.addi v303 c0_i32_186
  let c0_i32_192 : BitVec 32 := 0#32
  ![v304.toNat, 0]
def k0_dev19 (d0 : Dev nD) : Nat :=
  let c0_i32_190 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_189 : BitVec 32 := 2#32
  let v305 : BitVec 32 := Scalar.muli v6 c2_i32_189
  let v306 : BitVec 32 := Scalar.addi c0_i32_190 v305
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_191 : BitVec 32 := 1#32
  let v307 : BitVec 32 := Scalar.muli v5 c1_i32_191
  let v308 : BitVec 32 := Scalar.addi v306 v307
  v308.toNat
def k0_dev20 (d0 : Dev nD) : Nat :=
  let c0_i32_206 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_205 : BitVec 32 := 2#32
  let v327 : BitVec 32 := Scalar.muli v6 c2_i32_205
  let v328 : BitVec 32 := Scalar.addi c0_i32_206 v327
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_207 : BitVec 32 := 1#32
  let v329 : BitVec 32 := Scalar.muli v5 c1_i32_207
  let v330 : BitVec 32 := Scalar.addi v328 v329
  v330.toNat
def k0_dev21 (d0 : Dev nD) : Nat :=
  let c0_i32_222 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_221 : BitVec 32 := 2#32
  let v349 : BitVec 32 := Scalar.muli v6 c2_i32_221
  let v350 : BitVec 32 := Scalar.addi c0_i32_222 v349
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_223 : BitVec 32 := 1#32
  let v351 : BitVec 32 := Scalar.muli v5 c1_i32_223
  let v352 : BitVec 32 := Scalar.addi v350 v351
  v352.toNat
def k0_dev22 (d0 : Dev nD) : Nat :=
  let c0_i32_238 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_237 : BitVec 32 := 2#32
  let v371 : BitVec 32 := Scalar.muli v6 c2_i32_237
  let v372 : BitVec 32 := Scalar.addi c0_i32_238 v371
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_239 : BitVec 32 := 1#32
  let v373 : BitVec 32 := Scalar.muli v5 c1_i32_239
  let v374 : BitVec 32 := Scalar.addi v372 v373
  v374.toNat
def k0_dev23 (d0 : Dev nD) : Nat :=
  let c0_i32_254 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_253 : BitVec 32 := 2#32
  let v393 : BitVec 32 := Scalar.muli v6 c2_i32_253
  let v394 : BitVec 32 := Scalar.addi c0_i32_254 v393
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_255 : BitVec 32 := 1#32
  let v395 : BitVec 32 := Scalar.muli v5 c1_i32_255
  let v396 : BitVec 32 := Scalar.addi v394 v395
  v396.toNat
def k0_dev24 (d0 : Dev nD) : Nat :=
  let c0_i32_270 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_269 : BitVec 32 := 2#32
  let v415 : BitVec 32 := Scalar.muli v6 c2_i32_269
  let v416 : BitVec 32 := Scalar.addi c0_i32_270 v415
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v417 : BitVec 32 := Scalar.muli v5 c1_i32_271
  let v418 : BitVec 32 := Scalar.addi v416 v417
  v418.toNat
def k0_dev25 (d0 : Dev nD) : Nat :=
  let c0_i32_286 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_285 : BitVec 32 := 2#32
  let v437 : BitVec 32 := Scalar.muli v6 c2_i32_285
  let v438 : BitVec 32 := Scalar.addi c0_i32_286 v437
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_287 : BitVec 32 := 1#32
  let v439 : BitVec 32 := Scalar.muli v5 c1_i32_287
  let v440 : BitVec 32 := Scalar.addi v438 v439
  v440.toNat
def k0_dev26 (d0 : Dev nD) : Nat :=
  let c0_i32_302 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_301 : BitVec 32 := 2#32
  let v459 : BitVec 32 := Scalar.muli v6 c2_i32_301
  let v460 : BitVec 32 := Scalar.addi c0_i32_302 v459
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_303 : BitVec 32 := 1#32
  let v461 : BitVec 32 := Scalar.muli v5 c1_i32_303
  let v462 : BitVec 32 := Scalar.addi v460 v461
  v462.toNat
def k0_dev27 (d0 : Dev nD) : Nat :=
  let c0_i32_318 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_317 : BitVec 32 := 2#32
  let v481 : BitVec 32 := Scalar.muli v6 c2_i32_317
  let v482 : BitVec 32 := Scalar.addi c0_i32_318 v481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_319 : BitVec 32 := 1#32
  let v483 : BitVec 32 := Scalar.muli v5 c1_i32_319
  let v484 : BitVec 32 := Scalar.addi v482 v483
  v484.toNat
def k0_dev28 (d0 : Dev nD) : Nat :=
  let c0_i32_334 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_333 : BitVec 32 := 2#32
  let v503 : BitVec 32 := Scalar.muli v6 c2_i32_333
  let v504 : BitVec 32 := Scalar.addi c0_i32_334 v503
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_335 : BitVec 32 := 1#32
  let v505 : BitVec 32 := Scalar.muli v5 c1_i32_335
  let v506 : BitVec 32 := Scalar.addi v504 v505
  v506.toNat
def k0_dev29 (d0 : Dev nD) : Nat :=
  let c0_i32_350 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_349 : BitVec 32 := 2#32
  let v525 : BitVec 32 := Scalar.muli v6 c2_i32_349
  let v526 : BitVec 32 := Scalar.addi c0_i32_350 v525
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_351 : BitVec 32 := 1#32
  let v527 : BitVec 32 := Scalar.muli v5 c1_i32_351
  let v528 : BitVec 32 := Scalar.addi v526 v527
  v528.toNat
def k0_dev30 (d0 : Dev nD) : Nat :=
  let c0_i32_366 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_365 : BitVec 32 := 2#32
  let v547 : BitVec 32 := Scalar.muli v6 c2_i32_365
  let v548 : BitVec 32 := Scalar.addi c0_i32_366 v547
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_367 : BitVec 32 := 1#32
  let v549 : BitVec 32 := Scalar.muli v5 c1_i32_367
  let v550 : BitVec 32 := Scalar.addi v548 v549
  v550.toNat
def k0_dev31 (d0 : Dev nD) : Nat :=
  let c0_i32_382 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_381 : BitVec 32 := 2#32
  let v569 : BitVec 32 := Scalar.muli v6 c2_i32_381
  let v570 : BitVec 32 := Scalar.addi c0_i32_382 v569
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_383 : BitVec 32 := 1#32
  let v571 : BitVec 32 := Scalar.muli v5 c1_i32_383
  let v572 : BitVec 32 := Scalar.addi v570 v571
  v572.toNat
def k0_dev32 (d0 : Dev nD) : Nat :=
  let c0_i32_398 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_397 : BitVec 32 := 2#32
  let v591 : BitVec 32 := Scalar.muli v6 c2_i32_397
  let v592 : BitVec 32 := Scalar.addi c0_i32_398 v591
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_399 : BitVec 32 := 1#32
  let v593 : BitVec 32 := Scalar.muli v5 c1_i32_399
  let v594 : BitVec 32 := Scalar.addi v592 v593
  v594.toNat
def k0_dev33 (d0 : Dev nD) : Nat :=
  let c0_i32_414 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_413 : BitVec 32 := 2#32
  let v613 : BitVec 32 := Scalar.muli v6 c2_i32_413
  let v614 : BitVec 32 := Scalar.addi c0_i32_414 v613
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_415 : BitVec 32 := 1#32
  let v615 : BitVec 32 := Scalar.muli v5 c1_i32_415
  let v616 : BitVec 32 := Scalar.addi v614 v615
  v616.toNat
def k0_dev34 (d0 : Dev nD) : Nat :=
  let c0_i32_430 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_429 : BitVec 32 := 2#32
  let v635 : BitVec 32 := Scalar.muli v6 c2_i32_429
  let v636 : BitVec 32 := Scalar.addi c0_i32_430 v635
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_431 : BitVec 32 := 1#32
  let v637 : BitVec 32 := Scalar.muli v5 c1_i32_431
  let v638 : BitVec 32 := Scalar.addi v636 v637
  v638.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 1
  | .vmem => 0
  | .smem => 0
  | _ => 0

abbrev bufTy : (tb : Table) → Fin (tcTables nBuf tb) → BufTy
  | .hbm, ⟨0, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Form.lean ====
/-
# The all-to-all kernel as a program of loops

The printed kernel is one long line of transfers and waits: sixteen blocks of sixteen rows, each sent to the
neighbour along `y`, each passed on to the neighbour along `x` when it lands. Here that line is written once per
KIND of step, over the block's number, and the printed kernel is shown to be that program (`body_eq_program`).
-/
module

public import Idealize.ShloMosaic.Lib.Pipeline.Launch
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.A2A

open Idealize.ShloMosaic Idealize.ShloMosaic.TcCoe Idealize.SL.Sem
open Cert.KernelIdeal Cert.KernelIdeal.Gen

variable {F : FTy → Type} [FloatOps F]

/-- A program of the kernel's own effects. -/
abbrev P (F : FTy → Type) : Type → Type 1 := Prog (TpuEff nD τ sig (Elt F) Λ₀ .tc)

/-- The input block and the output block as the kernel holds them. -/
abbrev xM : Memref sig .tc .vmem S512x1024 .f32 := Memref.whole cc0_stg0_0
abbrev oM : Memref sig .tc .vmem S1024x512 .f32 := Memref.whole cc0_stg1_0

/-- Sixteen numbered transfer counters from counter `b` on. -/
abbrev dq (b : ℕ) (hb : b + 16 ≤ 67) (i : Fin 16) : DmaSem sig := ⟨b + i.val, by have := i.isLt; show b + i.val < 67; omega⟩

/-- The counters of block `i`: sent along `y`, arrived along `y`, sent along `x`, arrived along `x`; and the one of
    the copy inside the device. -/
abbrev qYs (i : Fin 16) : DmaSem sig := dq 2 (by decide) i
abbrev qYr (i : Fin 16) : DmaSem sig := dq 18 (by decide) i
abbrev qXs (i : Fin 16) : DmaSem sig := dq 34 (by decide) i
abbrev qXr (i : Fin 16) : DmaSem sig := dq 50 (by decide) i
abbrev qL : DmaSem sig := ⟨66, by decide⟩

/-- The runtime's barrier counter. -/
abbrev barS : Sem sig := (SemArray.scalar (sig.barrier 0 rfl) : Sems sig S_).sem

/-- Block `i` of device `d`'s input bound for the neighbour along `y`; the same block in that neighbour's output;
    the block of `d`'s own output that it passes on along `x`. -/
abbrev xBlk (d : Dev nD) (i : Fin 16) : Memref sig .tc .vmem S16x512 .f32 :=
  xM.slice (Rect.unit (s := S512x1024) (k0_off2 d (BitVec.ofNat 32 (16 * i.val))) S16x512.size (k0_off2_inb d i)) (fun _ => rfl)
/-- Where block `i` lands on the neighbour along `y`. -/
abbrev yBlk (d : Dev nD) (i : Fin 16) : Memref sig .tc .vmem S16x512 .f32 :=
  oM.slice (Rect.unit (s := S1024x512) (k0_off1 d (BitVec.ofNat 32 (16 * i.val))) S16x512.size (k0_off1_inb d i)) (fun _ => rfl)
/-- Block `i` as it is passed on along `x`: read and written at the same rows. -/
abbrev zBlk (d : Dev nD) (i : Fin 16) : Memref sig .tc .vmem S16x512 .f32 :=
  oM.slice (Rect.unit (s := S1024x512) (k0_off5 d (BitVec.ofNat 32 (16 * i.val))) S16x512.size (k0_off5_inb d i)) (fun _ => rfl)
/-- The half of the input that stays on the device, and where it goes in the output. -/
abbrev xOwn (d : Dev nD) : Memref sig .tc .vmem S512x512 .f32 :=
  xM.slice (Rect.unit (s := S512x1024) (k0_off4 d) S512x512.size (k0_off4_inb d)) (fun _ => rfl)
/-- Where the half that stays is copied to. -/
abbrev oOwn (d : Dev nD) : Memref sig .tc .vmem S512x512 .f32 :=
  oM.slice (Rect.unit (s := S1024x512) (k0_off3 d) S512x512.size (k0_off3_inb d)) (fun _ => rfl)

/-- The neighbours as the kernel computes them. -/
abbrev kY (d : Dev nD) : Dev nD := ⟨k0_dev3 d, k0_dev3_lt d⟩
/-- The neighbour along `x`, as the transfers name it. -/
abbrev kX (d : Dev nD) : Dev nD := ⟨k0_dev19 d, k0_dev19_lt d⟩

/-- The step `p` at every number of a list, in order. -/
def each (p : Fin 16 → P F PUnit) : List (Fin 16) → P F PUnit
  | [] => .ret ⟨⟩
  | i :: l => p i >>= fun _ => each p l

/-- The sixteen blocks in order. -/
abbrev blocks : List (Fin 16) := [0, 1, 2, 3, 4, 5, 6, 7, 8, 9, 10, 11, 12, 13, 14, 15]

/-- Send block `i` along `y`. -/
def sendY (d : Dev nD) (i : Fin 16) : P F PUnit :=
  Prog.lift (.enqueueDma (xBlk d i) (.remote (Dev.tc (kY d)) (yBlk d i) (.dma (qYs i))) (.dma (qYr i))
    (View.wordExact_bits rfl) (View.wordExact_bits rfl) ⟨⟨rfl, Or.inl rfl⟩, trivial⟩)

/-- Copy the half that stays. -/
def copyOwn (d : Dev nD) : P F PUnit :=
  Prog.lift (.enqueueDma (xOwn d) (.here (oOwn d)) (.dma qL) (View.wordExact_bits rfl) (View.wordExact_bits rfl) ⟨Or.inl rfl, trivial⟩)

/-- Wait for block `i` to arrive along `y`. -/
def awaitY (d : Dev nD) (i : Fin 16) : P F PUnit :=
  Prog.lift (.waitDma2 (qYr i) (xBlk d i) (yBlk d i) (View.wordExact_bits rfl) (View.wordExact_bits rfl))

/-- Pass block `i` on along `x`. -/
def sendX (d : Dev nD) (i : Fin 16) : P F PUnit :=
  Prog.lift (.enqueueDma (zBlk d i) (.remote (Dev.tc (kX d)) (zBlk d i) (.dma (qXs i))) (.dma (qXr i))
    (View.wordExact_bits rfl) (View.wordExact_bits rfl) ⟨⟨rfl, Or.inl rfl⟩, trivial⟩)

/-- Wait for block `i` to arrive along `x`. -/
def awaitX (d : Dev nD) (i : Fin 16) : P F PUnit :=
  Prog.lift (.waitDma2 (qXr i) (zBlk d i) (zBlk d i) (View.wordExact_bits rfl) (View.wordExact_bits rfl))

/-- Wait until block `i` has been read out for the transfer along `y`, along `x`. -/
def drainY (d : Dev nD) (i : Fin 16) : P F PUnit :=
  Prog.lift (.waitDma2 (qYs i) (yBlk d i) (xBlk d i) (View.wordExact_bits rfl) (View.wordExact_bits rfl))
/-- Wait until block `i`'s transfer along `x` has left. -/
def drainX (d : Dev nD) (i : Fin 16) : P F PUnit :=
  Prog.lift (.waitDma2 (qXs i) (zBlk d i) (zBlk d i) (View.wordExact_bits rfl) (View.wordExact_bits rfl))

/-- Wait for the copy of the half that stays. -/
def awaitOwn (d : Dev nD) : P F PUnit :=
  Prog.lift (.waitDma2 qL (xOwn d) (oOwn d) (View.wordExact_bits rfl) (View.wordExact_bits rfl))

/-- The meeting at the barrier: one unit to each neighbour, then wait for both of one's own. -/
def meet (d : Dev nD) : P F PUnit := do
  semSignalWord (⟨k0_dev1 d, k0_dev1_lt d⟩ : Dev nD) barS 1#32
  semSignalWord (⟨k0_dev2 d, k0_dev2_lt d⟩ : Dev nD) barS 1#32
  semWaitWord barS 2#32

/-- The kernel as a program of loops. -/
def program : P F PUnit := do
  let d : Dev nD ← Prog.lift .deviceId
  meet d
  each (sendY d) blocks
  copyOwn d
  each (fun i => awaitY d i >>= fun _ => sendX d i) blocks
  each (awaitX d) blocks
  each (fun i => drainY d i >>= fun _ => drainX d i) blocks
  awaitOwn d

set_option maxRecDepth 65536 in
/-- The printed kernel is that program. -/
theorem body_eq_program :
    cc0_body (F := F) xM (Memref.isWhole_whole _) oM (Memref.isWhole_whole _) cc0_scratch0 cc0_scratch1 cc0_scratch2 cc0_scratch3 cc0_scratch4
      = program := by
  rfl

end Cert.A2A

end
-- ==== Proof.Contents.lean ====
/-
# Where every element goes

The mesh's neighbours, the element sets of the blocks the kernel moves, the output every device ends with, and the
three facts that a transfer of a block writes exactly that output there.
-/
module

public import proofs.«01_k».proof.Proof.Form

@[expose] public section

set_option maxRecDepth 16384

noncomputable section

namespace Cert.A2A

open Idealize.ShloMosaic Idealize.ShloMosaic.TcCoe Idealize.SL.Sem
open Cert.KernelIdeal Cert.KernelIdeal.Gen

variable {F : FTy → Type} [FloatOps F]

/-! ## The mesh -/

/-- The neighbour along `y` and the neighbour along `x`. -/
def pY (c : Dev nD) : Dev nD := ⟨(2 * (c.val / 2) + 1) - c.val % 2, by have h : c.val < 4 := c.isLt; show _ < 4; omega⟩
/-- The neighbour along `x`. -/
def pX (c : Dev nD) : Dev nD := ⟨(c.val % 2 + 2) - 2 * (c.val / 2), by have h : c.val < 4 := c.isLt; show _ < 4; omega⟩

/-- Each is its neighbour's neighbour. -/
theorem pY_pY (c : Dev nD) : pY (pY c) = c := by revert c; decide
/-- The neighbour along `x` of the neighbour along `x` is the device. -/
theorem pX_pX (c : Dev nD) : pX (pX c) = c := by revert c; decide

/-- The neighbours the kernel computes are these, for the barrier's signals and for the transfers. -/
theorem dev1_eq (c : Dev nD) : (⟨k0_dev1 c, k0_dev1_lt c⟩ : Dev nD) = pY c := Fin.ext (k0_dev1_eq c)
/-- The second signal goes to the neighbour along `x`. -/
theorem dev2_eq (c : Dev nD) : (⟨k0_dev2 c, k0_dev2_lt c⟩ : Dev nD) = pX c := Fin.ext (k0_dev2_eq c)
/-- The first transfers go to the neighbour along `y`. -/
theorem kY_eq (c : Dev nD) : kY c = pY c := Fin.ext (k0_dev3_eq c)
/-- The second transfers go to the neighbour along `x`. -/
theorem kX_eq (c : Dev nD) : kX c = pX c := Fin.ext (k0_dev19_eq c)

/-! ## Element sets -/

/-- The indices of the input block and of the output block. -/
abbrev XI : Type := (cc0_stg0_0 : Ref sig .tc).ty.Idx
/-- Indices of an output buffer. -/
abbrev OI : Type := (cc0_stg1_0 : Ref sig .tc).ty.Idx

/-- Row and column of an index. -/
abbrev xr (j : XI) : ℕ := (j (0 : Fin 2)).val
abbrev xc (j : XI) : ℕ := (j (1 : Fin 2)).val
abbrev orow (j : OI) : ℕ := (j (0 : Fin 2)).val
abbrev ocol (j : OI) : ℕ := (j (1 : Fin 2)).val

/-- An input block has 512 rows, -/
theorem xr_lt (j : XI) : xr j < 512 := (j (0 : Fin 2)).isLt
/-- and 1024 columns; -/
theorem xc_lt (j : XI) : xc j < 1024 := (j (1 : Fin 2)).isLt
/-- an output block has 1024 rows, -/
theorem orow_lt (j : OI) : orow j < 1024 := (j (0 : Fin 2)).isLt
/-- and 512 columns. -/
theorem ocol_lt (j : OI) : ocol j < 512 := (j (1 : Fin 2)).isLt

/-- `n` rows of the output from row `a`. -/
def rows (a n : ℕ) : Finset OI := Finset.univ.filter fun j => a ≤ orow j ∧ orow j < a + n
/-- `n` rows by 512 columns of the input from row `a` and column `b`. -/
def boxX (a n b : ℕ) : Finset XI := Finset.univ.filter fun j => (a ≤ xr j ∧ xr j < a + n) ∧ b ≤ xc j ∧ xc j < b + 512

/-- A stretch of rows holds the indices whose row lies in it. -/
theorem mem_rows {a n : ℕ} {j : OI} : j ∈ rows a n ↔ a ≤ orow j ∧ orow j < a + n := by simp [rows]
/-- A box of the input holds the indices whose row and column lie in it. -/
theorem mem_boxX {a n b : ℕ} {j : XI} : j ∈ boxX a n b ↔ (a ≤ xr j ∧ xr j < a + n) ∧ b ≤ xc j ∧ xc j < b + 512 := by simp [boxX]

/-- The first row of block `i` that `c` receives along `y` (and passes on along `x` to the same row). -/
def row1 (c : Dev nD) (i : Fin 16) : ℕ := (256 * (c.val / 2) + 16 * i.val + 512) - 512 * (c.val % 2)
/-- The first row of block `i` that `c` receives along `x`. -/
abbrev row2 (c : Dev nD) (i : Fin 16) : ℕ := row1 (pX c) i

/-- The blocks `c` receives along `y`, along `x`, its own half, and what it sends and keeps of its input. -/
abbrev blk1 (c : Dev nD) (i : Fin 16) : Finset OI := rows (row1 c i) 16
/-- The rows block `i` along `x` arrives at. -/
abbrev blk2 (c : Dev nD) (i : Fin 16) : Finset OI := rows (row2 c i) 16
/-- The rows the half that stays is copied to. -/
abbrev own (c : Dev nD) : Finset OI := rows (512 * (c.val % 2)) 512
/-- What block `i` along `y` is read from. -/
abbrev xsrc (c : Dev nD) (i : Fin 16) : Finset XI := boxX (256 * (c.val / 2) + 16 * i.val) 16 (512 - 512 * (c.val % 2))
/-- The half of the input that stays. -/
abbrev xkeep (c : Dev nD) : Finset XI := boxX 0 512 (512 * (c.val % 2))

/-- The elements block `i` is read from. -/
theorem set_xBlk (c : Dev nD) (i : Fin 16) : (xBlk c i).view.set = xsrc c i := by
  ext j
  show j ∈ ((View.whole cc0_stg0_0).slice _).set ↔ _
  rw [View.set_slice_whole, Rect.mem_set_unit, k0_off2_eq, mem_boxX]
  exact Fin.forall_fin_two

/-- The elements block `i` lands on, on the neighbour along `y`. -/
theorem set_yBlk (c : Dev nD) (i : Fin 16) : (yBlk c i).view.set = blk1 (pY c) i := by
  ext j
  show j ∈ ((View.whole cc0_stg1_0).slice _).set ↔ _
  rw [View.set_slice_whole, Rect.mem_set_unit, k0_off1_eq, mem_rows]
  have hj := ocol_lt j
  have hr : row1 (pY c) i = 512 * (c.val % 2) + 256 * (c.val / 2) + 16 * i.val := by
    have h : c.val < 4 := c.isLt
    simp only [row1, pY]; omega
  rw [hr]
  exact Fin.forall_fin_two.trans ⟨fun h => h.1, fun h => ⟨h, Nat.zero_le _, by show ocol j < 0 + 512; omega⟩⟩

/-- The elements block `i` is passed on from. -/
theorem set_zBlk (c : Dev nD) (i : Fin 16) : (zBlk c i).view.set = blk1 c i := by
  ext j
  show j ∈ ((View.whole cc0_stg1_0).slice _).set ↔ _
  rw [View.set_slice_whole, Rect.mem_set_unit, k0_off5_eq, mem_rows]
  have hj := ocol_lt j
  exact Fin.forall_fin_two.trans ⟨fun h => h.1, fun h => ⟨h, Nat.zero_le _, by show ocol j < 0 + 512; omega⟩⟩

/-- The elements the local copy reads. -/
theorem set_xOwn (c : Dev nD) : (xOwn c).view.set = xkeep c := by
  ext j
  show j ∈ ((View.whole cc0_stg0_0).slice _).set ↔ _
  rw [View.set_slice_whole, Rect.mem_set_unit, k0_off4_eq, mem_boxX]
  exact Fin.forall_fin_two

/-- The elements the local copy writes. -/
theorem set_oOwn (c : Dev nD) : (oOwn c).view.set = own c := by
  ext j
  show j ∈ ((View.whole cc0_stg1_0).slice _).set ↔ _
  rw [View.set_slice_whole, Rect.mem_set_unit, k0_off3_eq, mem_rows]
  have hj := ocol_lt j
  exact Fin.forall_fin_two.trans ⟨fun h => h.1, fun h => ⟨h, Nat.zero_le _, by show ocol j < 0 + 512; omega⟩⟩

/-! ## The output -/

/-- The device whose input row `r` of `c`'s output comes from: itself, the neighbour along `y`, or the device across. -/
def srcDev (c : Dev nD) (r : ℕ) : Dev nD :=
  if r / 512 = c.val % 2 then c else if r % 512 / 256 = c.val / 2 then pY c else pY (pX c)

/-- The input index of a row and a column. -/
def xIdx (r k : ℕ) : XI := fun a => match a with
  | ⟨0, _⟩ => (⟨r % 512, Nat.mod_lt _ (by decide)⟩ : Fin 512)
  | ⟨1, _⟩ => (⟨k % 1024, Nat.mod_lt _ (by decide)⟩ : Fin 1024)

/-- An index with that row and column is that input index. -/
theorem xIdx_eq {r k : ℕ} {j : XI} (h0 : xr j = r % 512) (h1 : xc j = k % 1024) : xIdx r k = j := by
  funext a; apply Fin.ext
  match a with
  | ⟨0, _⟩ => exact h0.symm
  | ⟨1, _⟩ => exact h1.symm

/-- The output `c` ends with, from the devices' input blocks `X`: row `r` is row `r mod 512` of its source device's
    block, in the half of the columns that is `c`'s along `y`. -/
def outG (X : Dev nD → (cc0_stg0_0 : Ref sig .tc).ty.Contents (Elt F)) (c : Dev nD) : (cc0_stg1_0 : Ref sig .tc).ty.Contents (Elt F) :=
  fun j => X (srcDev c (orow j)) (xIdx (orow j) (512 * (c.val % 2) + ocol j))

/-- An element of it, by its source device, row and column. -/
theorem outG_at (X : Dev nD → (cc0_stg0_0 : Ref sig .tc).ty.Contents (Elt F)) {c d : Dev nD} {j : OI} {k : XI}
    (hd : srcDev c (orow j) = d) (h0 : xr k = orow j % 512) (h1 : xc k = 512 * (c.val % 2) + ocol j) : outG X c j = X d k := by
  have hk := xc_lt k
  unfold outG
  rw [hd, xIdx_eq h0 (by omega)]

/-! ## What the transfers write -/

/-- Writing through one view what another reads, at an element under the first. -/
theorem write_read_at {b b' : Ref sig .tc} {s : Shape} {e : EltTy} {sp sp' : Space} (v : View sig .tc sp s e) (v' : View sig .tc sp' s e)
    (f : v.ty.Contents (Elt F)) (f' : v'.ty.Contents (Elt F)) (g : v.ty.Contents (Elt F))
    (h : ∀ x, g (v.emb x) = _root_.cast (congrArg (Elt F) v.elt_eq.symm) (v'.read (Elt F) f' x)) :
    ∀ j ∈ v.set, v.write (Elt F) f (v'.read (Elt F) f') Finset.univ j = g j := by
  intro j hj
  obtain ⟨x, -, rfl⟩ := Finset.mem_map.mp hj
  rw [View.write_emb_of_mem _ _ (Finset.mem_univ x), h x]

/-- A device's coordinates are 0 or 1. -/
theorem dev_cases (c : Dev nD) :
    c.val / 2 = 0 ∧ c.val % 2 = 0 ∨ c.val / 2 = 0 ∧ c.val % 2 = 1 ∨ c.val / 2 = 1 ∧ c.val % 2 = 0 ∨ c.val / 2 = 1 ∧ c.val % 2 = 1 := by
  have h : c.val < 4 := c.isLt
  omega

variable (X : Dev nD → (cc0_stg0_0 : Ref sig .tc).ty.Contents (Elt F))

/-- Block `i` of `c`, landed on the neighbour along `y`, is that device's output there. -/
theorem landY (c : Dev nD) (i : Fin 16) (f : (cc0_stg1_0 : Ref sig .tc).ty.Contents (Elt F)) :
    ∀ j ∈ (yBlk c i).view.set, (yBlk c i).view.write (Elt F) f ((xBlk c i).view.read (Elt F) (X c)) Finset.univ j = outG X (pY c) j := by
  refine write_read_at (b := cc0_stg1_0) (b' := cc0_stg0_0) (yBlk c i).view (xBlk c i).view f (X c) (outG X (pY c)) fun x => ?_
  have h : c.val < 4 := c.isLt
  have hi := i.isLt
  have e0 : orow ((yBlk c i).view.emb x) = 512 * (c.val % 2) + 256 * (c.val / 2) + 16 * i.val + 1 * (x (0 : Fin 2)).val :=
    congrArg (fun o : Fin 2 → ℕ => o 0 + 1 * (x (0 : Fin 2)).val) (k0_off1_eq c i)
  have e1 : ocol ((yBlk c i).view.emb x) = 0 + 1 * (x (1 : Fin 2)).val :=
    congrArg (fun o : Fin 2 → ℕ => o 1 + 1 * (x (1 : Fin 2)).val) (k0_off1_eq c i)
  have f0 : xr ((xBlk c i).view.emb x) = 256 * (c.val / 2) + 16 * i.val + 1 * (x (0 : Fin 2)).val :=
    congrArg (fun o : Fin 2 → ℕ => o 0 + 1 * (x (0 : Fin 2)).val) (k0_off2_eq c i)
  have f1 : xc ((xBlk c i).view.emb x) = 512 - 512 * (c.val % 2) + 1 * (x (1 : Fin 2)).val :=
    congrArg (fun o : Fin 2 → ℕ => o 1 + 1 * (x (1 : Fin 2)).val) (k0_off2_eq c i)
  have hx : (x (0 : Fin 2)).val < 16 := (x (0 : Fin 2)).isLt
  generalize (x (0 : Fin 2)).val = n at *
  generalize (x (1 : Fin 2)).val = m at *
  have hY : (pY c).val = (2 * (c.val / 2) + 1) - c.val % 2 := rfl
  refine outG_at X (d := c) ?_ ?_ ?_
  · unfold srcDev
    rw [e0]
    rcases dev_cases c with hc | hc | hc | hc <;> rw [if_neg (by omega), if_pos (by omega), pY_pY]
  · rw [e0, f0]; omega
  · rw [e1, f1, hY]; omega

/-- The half that stays, copied, is the device's output there. -/
theorem landOwn (c : Dev nD) (f : (cc0_stg1_0 : Ref sig .tc).ty.Contents (Elt F)) :
    ∀ j ∈ (oOwn c).view.set, (oOwn c).view.write (Elt F) f ((xOwn c).view.read (Elt F) (X c)) Finset.univ j = outG X c j := by
  refine write_read_at (b := cc0_stg1_0) (b' := cc0_stg0_0) (oOwn c).view (xOwn c).view f (X c) (outG X c) fun x => ?_
  have h : c.val < 4 := c.isLt
  have e0 : orow ((oOwn c).view.emb x) = 512 * (c.val % 2) + 1 * (x (0 : Fin 2)).val :=
    congrArg (fun o : Fin 2 → ℕ => o 0 + 1 * (x (0 : Fin 2)).val) (k0_off3_eq c)
  have e1 : ocol ((oOwn c).view.emb x) = 0 + 1 * (x (1 : Fin 2)).val :=
    congrArg (fun o : Fin 2 → ℕ => o 1 + 1 * (x (1 : Fin 2)).val) (k0_off3_eq c)
  have f0 : xr ((xOwn c).view.emb x) = 0 + 1 * (x (0 : Fin 2)).val :=
    congrArg (fun o : Fin 2 → ℕ => o 0 + 1 * (x (0 : Fin 2)).val) (k0_off4_eq c)
  have f1 : xc ((xOwn c).view.emb x) = 512 * (c.val % 2) + 1 * (x (1 : Fin 2)).val :=
    congrArg (fun o : Fin 2 → ℕ => o 1 + 1 * (x (1 : Fin 2)).val) (k0_off4_eq c)
  have hx : (x (0 : Fin 2)).val < 512 := (x (0 : Fin 2)).isLt
  refine outG_at X (d := c) ?_ ?_ ?_
  · unfold srcDev
    rw [e0, if_pos (by omega)]
  · rw [e0, f0]; omega
  · rw [e1, f1]; omega

/-- On the block passed on along `x` the two devices' outputs agree. -/
theorem outG_pX (c : Dev nD) (i : Fin 16) : ∀ j ∈ blk1 c i, outG X (pX c) j = outG X c j := by
  intro j hj
  have h : c.val < 4 := c.isLt
  have hi := i.isLt
  have hj := mem_rows.mp hj
  unfold row1 at hj
  have hX : (pX c).val = (c.val % 2 + 2) - 2 * (c.val / 2) := rfl
  unfold outG srcDev
  have hm : (pX c).val % 2 = c.val % 2 := by omega
  rw [pX_pX, hm]
  rcases dev_cases c with hc | hc | hc | hc <;>
    rw [if_neg (by omega), if_neg (by omega), if_neg (by omega), if_pos (by omega)]

/-- Block `i`, passed on along `x`, is the neighbour's output there. -/
theorem landX (c : Dev nD) (i : Fin 16) (f : (cc0_stg1_0 : Ref sig .tc).ty.Contents (Elt F)) :
    ∀ j ∈ (zBlk c i).view.set, (zBlk c i).view.write (Elt F) f ((zBlk c i).view.read (Elt F) (outG X c)) Finset.univ j = outG X (pX c) j := by
  refine write_read_at (b := cc0_stg1_0) (b' := cc0_stg1_0) (zBlk c i).view (zBlk c i).view f (outG X c) (outG X (pX c)) fun x => ?_
  exact outG_pX X c i _ (by rw [← set_zBlk]; exact View.emb_mem_set _ x)

end Cert.A2A

end
-- ==== Proof.Schedule.lean ====
/-
# Who signals whom, and what each signal hands over

The counters of the kernel, one round each: the barrier counter of a device gets one unit from either neighbour, each
handing over the sixteen blocks of its output the device will write; each transfer counter gets one transfer's credit,
handing over the elements the transfer has finished with.
-/
module

public import proofs.«01_k».proof.Proof.Contents

@[expose] public section

set_option maxRecDepth 16384

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resources -/

/-- The ghost state of the kernel's counters, and all of it: the launch's own first, the kernel's second. -/
abbrev UK : Type := URounds (GSem nD τ sig) Bool
/-- The ghost state: the pipeline's and the counters'. -/
abbrev UU : Type := UR sig nD τ × UK

local notation "𝕄" => MT nD τ sig Unit (Elt F) ℕ UU ℕ

abbrev EP : Emb (UR sig nD τ) (MT nD τ sig Unit (Elt F) ℕ UU ℕ) := embL
abbrev ER : Emb UK (MT nD τ sig Unit (Elt F) ℕ UU ℕ) := embR

/-- Elements `S` of device `c`'s input block hold `f`; of its output, `f`; of its output, anything. -/
abbrev xpts (c : Dev nD) (S : Finset XI) (f : (cc0_stg0_0 : Ref sig .tc).ty.Contents (Elt F)) : sProp 𝕄 :=
  ((c : Thread nD τ).loc cc0_stg0_0) ↦[S]{fullShare} f
/-- Holding elements `S` of the output of `c`, at contents `f`. -/
abbrev opts (c : Dev nD) (S : Finset OI) (f : (cc0_stg1_0 : Ref sig .tc).ty.Contents (Elt F)) : sProp 𝕄 :=
  ((c : Thread nD τ).loc cc0_stg1_0) ↦[S]{fullShare} f
/-- Holding elements `S` of the output of `c`, at some contents. -/
abbrev someO (c : Dev nD) (S : Finset OI) : sProp 𝕄 := iprop(∃ f, opts (F := F) c S f)

/-! ## The counters -/

/-- The transfer counters: four for each block (sent and arrived along `y`, sent and arrived along `x`), and the one
    of the copy inside the device. -/
abbrev K : Type := (Fin 4 × Fin 16) ⊕ Unit

/-- The number of a transfer counter, and back. -/
def qOf : K → DmaSem sig
  | .inl (a, i) => ⟨2 + 16 * a.val + i.val, by have := a.isLt; have := i.isLt; show _ < 67; omega⟩
  | .inr _ => qL
/-- The counter behind a semaphore. -/
def kOf (q : DmaSem sig) : K :=
  if q.val = 66 then .inr () else .inl (⟨(q.val - 2) / 16 % 4, Nat.mod_lt _ (by decide)⟩, ⟨(q.val - 2) % 16, Nat.mod_lt _ (by decide)⟩)

/-- The counter behind a counter's semaphore is that counter. -/
theorem kOf_qOf (k : K) : kOf (qOf k) = k := by
  rcases k with ⟨a, i⟩ | u
  · have ha := a.isLt
    have hi := i.isLt
    unfold kOf qOf
    dsimp only
    rw [if_neg (by omega)]
    refine congrArg Sum.inl (Prod.ext (Fin.ext ?_) (Fin.ext ?_))
    · show (2 + 16 * a.val + i.val - 2) / 16 % 4 = a.val; omega
    · show (2 + 16 * a.val + i.val - 2) % 16 = i.val; omega
  · exact if_pos rfl

/-- Different counters have different semaphores. -/
theorem qOf_injective : Function.Injective qOf := fun a b h => by rw [← kOf_qOf a, h, kOf_qOf]

/-- The kernel's own counters, and those with the barrier's. -/
def osem (k : K) : SemLoc sig := .dma (qOf k)
/-- The semaphore of a counter or of the barrier. -/
def csem : K ⊕ Unit → SemLoc sig
  | .inl k => osem k
  | .inr _ => .reg barS

abbrev dcell (c : Dev nD) (k : K) : GSem nD τ sig := ((c : Thread nD τ), .dma (qOf k))
abbrev bcell (c : Dev nD) : GSem nD τ sig := ((c : Thread nD τ), .reg barS)
abbrev cell (p : Dev nD × (K ⊕ Unit)) : GSem nD τ sig := ((p.1 : Thread nD τ), csem p.2)

/-- All of a device's counters have different semaphores. -/
theorem csem_injective : Function.Injective csem := by
  rintro (a | a) (b | b) h
  · exact congrArg Sum.inl (qOf_injective (SemLoc.dma.inj h))
  · cases h
  · cases h
  · rfl

/-- All counters of the mesh lie in different cells. -/
theorem cell_injective : Function.Injective cell := by
  rintro ⟨c, k⟩ ⟨d, l⟩ h
  obtain ⟨h1, h2⟩ := Prod.mk.inj h
  have : c = d := congrArg (fun t : Thread nD τ => t.1) h1
  exact Prod.ext this (csem_injective h2)

/-- The counters of block `i`, by the names the program uses. -/
abbrev kYs (i : Fin 16) : K := .inl (0, i)
abbrev kYr (i : Fin 16) : K := .inl (1, i)
abbrev kXs (i : Fin 16) : K := .inl (2, i)
abbrev kXr (i : Fin 16) : K := .inl (3, i)
abbrev kL : K := .inr ()

theorem qOf_Ys (i : Fin 16) : qOf (kYs i) = qYs i := rfl
theorem qOf_Yr (i : Fin 16) : qOf (kYr i) = qYr i := rfl
theorem qOf_Xs (i : Fin 16) : qOf (kXs i) = qXs i := rfl
theorem qOf_Xr (i : Fin 16) : qOf (kXr i) = qXr i := rfl
theorem qOf_L : qOf kL = qL := rfl

/-- The credit of one transfer on a counter. -/
def NB : ℕ := (zBlk 0 0).view.dmaCredit
/-- What the local copy pays. -/
def NL : ℕ := (oOwn 0).view.dmaCredit
/-- What a counter's transfer pays. -/
def amt : K → ℕ
  | .inl _ => NB
  | .inr _ => NL

/-- A block pays something, -/
theorem NB_pos : 0 < NB := View.dmaCredit_pos _ (by decide)
/-- the local copy pays something, -/
theorem NL_pos : 0 < NL := View.dmaCredit_pos _ (by decide)
/-- every transfer pays something. -/
theorem amt_pos (k : K) : 0 < amt k := by rcases k with k | k; exacts [NB_pos, NL_pos]

/-- A block read from the input pays a block's amount, -/
theorem credit_xBlk (c : Dev nD) (i : Fin 16) : (xBlk c i).view.dmaCredit = NB := rfl
/-- one landing along `y` too, -/
theorem credit_yBlk (c : Dev nD) (i : Fin 16) : (yBlk c i).view.dmaCredit = NB := rfl
/-- and one passed on along `x`; -/
theorem credit_zBlk (c : Dev nD) (i : Fin 16) : (zBlk c i).view.dmaCredit = NB := rfl
/-- the local copy pays its own. -/
theorem credit_oOwn (c : Dev nD) : (oOwn c).view.dmaCredit = NL := rfl

/-! ## The schedule -/

variable (X : Dev nD → (cc0_stg0_0 : Ref sig .tc).ty.Contents (Elt F))

/-- What a barrier unit hands device `c`: from the neighbour along `y` (`false`) that device's blocks `c` sends to, from
    the neighbour along `x` (`true`) the blocks `c` passes on to. -/
def barPay (c : Dev nD) : Bool → sProp 𝕄
  | false => bigSep Finset.univ fun i => someO (pY c) (blk1 (pY c) i)
  | true => bigSep Finset.univ fun i => someO (pX c) (blk1 c i)

/-- What a transfer counter of `c` hands it: the block it sent from, or the block that arrived, holding the output; the
    local copy's counter both sides of the copy. -/
def dmaPay (c : Dev nD) : K → sProp 𝕄
  | .inl (a, i) => match a with
    | 0 => xpts c (xsrc c i) (X c)
    | 3 => opts c (blk2 c i) (outG X c)
    | _ => opts c (blk1 c i) (outG X c)
  | .inr _ => iprop(opts c (own c) (outG X c) ∗ xpts c (xkeep c) (X c))

/-- One round: a barrier counter's two units, a transfer counter's one transfer. -/
def sched : Schedule (GSem nD τ sig) Bool 𝕄 where
  duties g r := if r = 0 then (match g.2 with | .reg _ => Finset.univ | .dma _ => {false}) else ∅
  amount g _ _ := match g.2 with | .reg _ => 1 | .dma q => amt (kOf q)
  payload g _ d := match g.2 with | .reg _ => barPay g.1.1 d | .dma q => dmaPay X g.1.1 (kOf q)
  amount_pos g _ _ _ := by
    rcases g with ⟨t, q | q⟩
    · exact Nat.one_pos
    · exact amt_pos _

/-- What the barrier's signals hand over can lie in an invariant, -/
instance barPay_storable (c : Dev nD) (d : Bool) : BI.Storable (upEmb : UEmb _ 𝕄) (barPay (F := F) c d) := by
  cases d <;> (unfold barPay; infer_instance)

/-- what the transfers hand over can, -/
instance dmaPay_storable (c : Dev nD) (k : K) : BI.Storable (upEmb : UEmb _ 𝕄) (dmaPay X c k) := by
  rcases k with ⟨a, i⟩ | u
  · unfold dmaPay; dsimp only; split <;> infer_instance
  · unfold dmaPay; infer_instance

/-- and so can every payload. -/
instance sched_storable (g : GSem nD τ sig) (r : ℕ) (d : Bool) : BI.Storable (upEmb : UEmb _ 𝕄) ((sched X).payload g r d) := by
  rcases g with ⟨t, q | q⟩
  · exact barPay_storable _ _
  · exact dmaPay_storable X _ _

/-- The barrier counter has two duties, -/
theorem duties_bar (c : Dev nD) : (sched X).duties (bcell c) 0 = Finset.univ := rfl
/-- a transfer counter one, -/
theorem duties_dma (c : Dev nD) (q : DmaSem sig) : (sched X).duties ((c : Thread nD τ), .dma q) 0 = {false} := rfl
/-- and none has any after round 0. -/
theorem duties_later (g : GSem nD τ sig) : ∀ r, 0 + 1 ≤ r → (sched X).duties g r = ∅ := fun r hr => if_neg (by omega)

/-- A signal pays one, -/
theorem amount_bar (c : Dev nD) (d : Bool) : (sched X).amount (bcell c) 0 d = 1 := rfl
/-- a transfer its amount. -/
theorem amount_dma (c : Dev nD) (k : K) (d : Bool) : (sched X).amount (dcell c k) 0 d = amt k := congrArg amt (kOf_qOf k)

/-- A signal hands over its part of the output, -/
theorem payload_bar (c : Dev nD) (d : Bool) : (sched X).payload (bcell c) 0 d = barPay c d := rfl
/-- a transfer what its counter says. -/
theorem payload_dma (c : Dev nD) (k : K) (d : Bool) : (sched X).payload (dcell c k) 0 d = dmaPay X c k := congrArg (dmaPay X c) (kOf_qOf k)

/-- The barrier counter expects two, -/
theorem expect_bar (c : Dev nD) : (sched X).expect (bcell c) 0 = 2 := rfl
/-- a transfer counter its amount. -/
theorem expect_dma (c : Dev nD) (k : K) : (sched X).expect (dcell c k) 0 = amt k := by
  unfold Schedule.expect Schedule.amountOf
  rw [duties_dma, Finset.sum_singleton, amount_dma]

/-- A barrier counter's whole round hands over both neighbours' blocks, a transfer counter's the transfer's elements. -/
theorem rest_bar (c : Dev nD) :
    bigSep ((sched X).duties (bcell c) 0 \ ∅) (fun d => (sched X).payload (bcell c) 0 d) = iprop(barPay c true ∗ barPay c false) := by
  rw [Finset.sdiff_empty, duties_bar, bigSep_univ_at _ true, show (Finset.univ.erase true : Finset Bool) = {false} by decide, bigSep_singleton]
  rfl
/-- A transfer counter's whole round hands over that transfer's elements. -/
theorem rest_dma (c : Dev nD) (k : K) :
    bigSep ((sched X).duties (dcell c k) 0 \ ∅) (fun d => (sched X).payload (dcell c k) 0 d) = dmaPay X c k := by
  rw [Finset.sdiff_empty, duties_dma, bigSep_singleton, payload_dma]

/-! ## What is owed, and the order of waiting -/

/-- What `c` still owes along `y` and along `x` with the blocks `S` to come. -/
def oweY (c : Dev nD) (S : Finset (Fin 16)) : CellTallies nD τ sig Unit := ∑ i ∈ S, tallyAt (dcell (pY c) (kYr i)) () NB
/-- What is still owed to the neighbour along `x`, for the blocks in `S`. -/
def oweX (c : Dev nD) (S : Finset (Fin 16)) : CellTallies nD τ sig Unit := ∑ i ∈ S, tallyAt (dcell (pX c) (kXr i)) () NB
/-- What `c` owes at launch: all of it and a unit to each neighbour's barrier counter. -/
def owe1 (c : Dev nD) : CellTallies nD τ sig Unit := (oweX c Finset.univ + oweY c Finset.univ) + tallyAt (bcell (pX c)) () 1
/-- What a device owes at the start: everything. -/
def owe0 (c : Dev nD) : CellTallies nD τ sig Unit := owe1 c + tallyAt (bcell (pY c)) () 1

/-- One more block along `y` is one more debt, -/
theorem oweY_insert (c : Dev nD) {i : Fin 16} {S : Finset (Fin 16)} (h : i ∉ S) :
    oweY c (insert i S) = oweY c S + tallyAt (dcell (pY c) (kYr i)) () NB := by
  unfold oweY; rw [Finset.sum_insert h, add_comm]
/-- and so along `x`. -/
theorem oweX_insert (c : Dev nD) {i : Fin 16} {S : Finset (Fin 16)} (h : i ∉ S) :
    oweX c (insert i S) = oweX c S + tallyAt (dcell (pX c) (kXr i)) () NB := by
  unfold oweX; rw [Finset.sum_insert h, add_comm]

/-- The counters that may be waited on, and their order: the barrier's, then arrivals along `y`, then along `x`. -/
def L (g : GSem nD τ sig) : Finset Unit := if g.1.2 = .tc then {()} else ∅
/-- The level of a counter: the barrier's 1, arrivals along `y` 2, arrivals along `x` 3, all others 0. -/
def lv (g : GSem nD τ sig) (_ : Unit) : ℕ := match g.2 with
  | .reg _ => 1
  | .dma q => if 18 ≤ q.val ∧ q.val < 34 then 2 else if 50 ≤ q.val ∧ q.val < 66 then 3 else 0

/-- Only a TensorCore's counters are waited for, -/
theorem L_of_ne (g : GSem nD τ sig) (h : g.1.2 ≠ .tc) : L g = ∅ := if_neg h
/-- and each of them is. -/
theorem L_tc (c : Dev nD) (sm : SemLoc sig) : L ((c : Thread nD τ), sm) = {()} := if_pos rfl

/-- Arrivals along `y` have level 2, -/
theorem lv_Yr (c : Dev nD) (i : Fin 16) : lv (dcell c (kYr i)) () = 2 := by
  have := i.isLt
  exact if_pos (show 18 ≤ 2 + 16 * 1 + i.val ∧ 2 + 16 * 1 + i.val < 34 by omega)
/-- arrivals along `x` level 3. -/
theorem lv_Xr (c : Dev nD) (i : Fin 16) : lv (dcell c (kXr i)) () = 3 := by
  have := i.isLt
  exact (if_neg (show ¬(18 ≤ 2 + 16 * 3 + i.val ∧ 2 + 16 * 3 + i.val < 34) by omega)).trans
    (if_pos (show 50 ≤ 2 + 16 * 3 + i.val ∧ 2 + 16 * 3 + i.val < 66 by omega))

/-- A cell owed by a sum of tallies is one of the sum's. -/
theorem sum_tally_pos {f : Fin 16 → GSem nD τ sig} {S : Finset (Fin 16)} {N : ℕ} {g : GSem nD τ sig} {u : Unit}
    (h : 0 < (∑ i ∈ S, (tallyAt (f i) () N : CellTallies nD τ sig Unit)) g u) : ∃ i, g = f i := by
  by_contra hn
  rw [not_exists] at hn
  rw [Finset.sum_apply, Finsupp.finset_sum_apply, Finset.sum_eq_zero fun i _ => by rw [tallyAt_apply, if_neg fun h' => hn i h'.1]] at h
  exact Nat.lt_irrefl 0 h

/-- What a sum owes, one of the two owes. -/
theorem add_pos_cases {A B : CellTallies nD τ sig Unit} {g : GSem nD τ sig} {u : Unit} (h : 0 < (A + B) g u) : 0 < A g u ∨ 0 < B g u := by
  rw [Pi.add_apply, Finsupp.add_apply] at h; omega

/-- A single debt is owed to its own counter only. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- Tallies whose cells are all a core's and all later than `b`. -/
def After (b : ℕ) (O : CellTallies nD τ sig Unit) : Prop := ∀ g u, 0 < O g u → u ∈ L g ∧ b < lv g u

/-- Two debts above a level are above it together, -/
theorem After.add {b : ℕ} {A B : CellTallies nD τ sig Unit} (hA : After b A) (hB : After b B) : After b (A + B) :=
  fun g u h => (add_pos_cases h).elim (hA g u) (hB g u)
/-- no debt is above every level, -/
theorem after_zero (b : ℕ) : After b 0 := fun g u h => absurd h (Nat.lt_irrefl 0)
/-- the debts along `y` are above the barrier, -/
theorem after_oweY (c : Dev nD) (S : Finset (Fin 16)) {b : ℕ} (hb : b < 2) : After b (oweY c S) := fun g u h => by
  obtain ⟨i, rfl⟩ := sum_tally_pos h
  exact ⟨by rw [L_tc]; exact Finset.mem_singleton_self _, by rw [lv_Yr]; exact hb⟩
/-- the debts along `x` are above the arrivals along `y`, -/
theorem after_oweX (c : Dev nD) (S : Finset (Fin 16)) {b : ℕ} (hb : b < 3) : After b (oweX c S) := fun g u h => by
  obtain ⟨i, rfl⟩ := sum_tally_pos h
  exact ⟨by rw [L_tc]; exact Finset.mem_singleton_self _, by rw [lv_Xr]; exact hb⟩
/-- a debt to a barrier is above level 0, -/
theorem after_bar (c : Dev nD) : After 0 (tallyAt (bcell c) () 1) := fun g u h => by
  obtain rfl := tally_pos h
  exact ⟨by rw [L_tc]; exact Finset.mem_singleton_self _, Nat.one_pos⟩
/-- and so is all a device owes at the start. -/
theorem after_owe0 (c : Dev nD) : After 0 (owe0 c) :=
  (((after_oweX c _ (by decide)).add (after_oweY c _ (by decide))).add (after_bar _)).add (after_bar _)

/-- A core may wait on a counter owing only later ones. -/
theorem mayWait (c : Dev nD) (sm : SemLoc sig) {O : CellTallies nD τ sig Unit} (hO : After (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (hO g u hg).1) (fun p hp => by rw [Finset.mem_singleton.mp hp]) (fun g u hg => (hO g u hg).2)

end Cert.A2A

end
-- ==== Proof.Body.lean ====
/-
# One device's run of the kernel

The rules for the kernel's steps, a rule for its loops, and from them the run of the whole body on one device.
-/
module

public import proofs.«01_k».proof.Proof.Schedule

@[expose] public section

set_option maxRecDepth 16384

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-- The weakest precondition of a program of the kernel on device `c`. -/
abbrev run (c : Dev nD) (p : P F PUnit) (Q : PUnit → sProp 𝕄) : sProp 𝕄 :=
  wp frame (wpE (defs₀ (F := F)) 𝒱₀ (c : Thread nD τ) none) Set.univ p Q

variable (X : Dev nD → (cc0_stg0_0 : Ref sig .tc).ty.Contents (Elt F))
variable (Kn : Dev nD × (K ⊕ Unit) → ℕ)

/-! ## What every step may use -/

/-- Every counter's invariant and that its round is open, and the order of waiting. -/
def ctx : sProp 𝕄 :=
  iprop((bigSep Finset.univ fun p => iprop(cellInv ER (sched X) (Kn p) (cell p) ∗ reached ER (cell p) 0)) ∗ levAts L lv)

/-- The context can be used any number of times. -/
instance ctx_persistent : BI.Persistent (ctx X Kn) := by unfold ctx; infer_instance

/-- The context gives every counter's invariant and that it has reached round 0; -/
theorem ctx_cell (p : Dev nD × (K ⊕ Unit)) :
    ctx X Kn ⊢ iprop(cellInv ER (sched X) (Kn p) (cell p) ∗ reached ER (cell p) 0) := by
  unfold ctx
  iintro ⟨#H, -⟩
  iapply (show (bigSep Finset.univ fun p => iprop(cellInv ER (sched X) (Kn p) (cell p) ∗ reached ER (cell p) 0) : sProp 𝕄)
    ⊢ iprop(cellInv ER (sched X) (Kn p) (cell p) ∗ reached ER (cell p) 0) from bigSep_elim (Finset.mem_univ p)) $$ H

/-- in particular a transfer counter's, -/
theorem ctx_dma (c : Dev nD) (k : K) :
    ctx X Kn ⊢ iprop(cellInv ER (sched X) (Kn (c, .inl k)) (dcell c k) ∗ reached ER (dcell c k) 0) := ctx_cell X Kn (c, .inl k)
/-- and the barrier counter's; -/
theorem ctx_bar (c : Dev nD) :
    ctx X Kn ⊢ iprop(cellInv ER (sched X) (Kn (c, .inr ())) (bcell c) ∗ reached ER (bcell c) 0) := ctx_cell X Kn (c, .inr ())
/-- and the levels. -/
theorem ctx_lev : ctx X Kn ⊢ levAts L lv := by
  unfold ctx
  iintro ⟨-, H⟩
  iexact H

/-- `c` owes `O`, whatever it has waited on. -/
def owing (c : Dev nD) (O : CellTallies nD τ sig Unit) : sProp 𝕄 := iprop(∃ W, owes (c : Thread nD τ) O W)

/-! ## A wait -/

/-- Waiting for a transfer counter's credit: what the transfer hands over, and the counter back at zero for good. -/
theorem wp_take (c : Dev nD) (k : K) {q : DmaSem sig} (hq : qOf k = q) {s s' : Shape} {src : Memref sig .tc .vmem s .f32}
    {dst : Memref sig .tc .vmem s' .f32} (hN : dst.view.dmaCredit = amt k) {hsrc : src.view.WordExact} {hdst : dst.view.WordExact}
    {O : CellTallies nD τ sig Unit} (hO : After (lv (dcell c k) ()) O) (p : PUnit → P F PUnit) (Q : PUnit → sProp 𝕄) :
    iprop(ctx X Kn ∗ cred (tallyAt (dcell c k) () (amt k)) ∗ atPos ER (dcell c k) 0 ∅ 0 ∗ owing c O)
      ⊢ iprop((((semVal (dcell c k) 0 ∗ dmaPay X c k) ∗ owing c O) -∗ run c (p ⟨⟩) Q)
          -∗ run c (.op (.waitDma2 q src dst hsrc hdst) p) Q) := by
  subst hq
  unfold owing
  iintro ⟨#Hc, Hcr, Hat, ⟨%W, HO⟩⟩ Hk
  ihave #Hi := (ctx_dma X Kn c k) $$ Hc
  icases Hi with ⟨#Hinv, -⟩
  ihave #Hl := (ctx_lev X Kn) $$ Hc
  iapply (Rounds.wp_wait_rest_token 𝒱₀ ER (sched X) (c : Thread nD τ) none (κ := Kn (c, .inl k)) (k' := amt k)
    (fun Q => by rw [wpE_waitDma2_eq, hN]) (Set.mem_univ _) ()
    (O := O) (W := W) (R := 0) (m := 0) (T := ∅) (by rw [expect_dma, Nat.zero_add])) $$ [Hcr Hat HO]
  · isplitr; · iexact Hinv
    isplitl [Hcr]; · iexact Hcr
    isplitl [HO]; · iexact HO
    isplitr; · iapply (mayWait c (.dma (qOf k)) hO); iexact Hl
    iexact Hat
  iintro ⟨HO, Hat, -, Hpay⟩
  ihave Hp := (Entails.of_eq (rest_dma X c k)) $$ Hpay
  imod (Rounds.cell_close ER (sched X) (Set.mem_univ (Kn (c, .inl k))) (fun h => h) (R := 0 + 1) (duties_later X (dcell c k))) $$ [Hat] with Hz
  · isplitr; · iexact Hinv
    iexact Hat
  iapply Hk
  isplitl [Hz Hp]
  · isplitl [Hz] <;> iassumption
  iexists _; iexact HO

/-! ## The transfers -/

/-- Sending block `i` along `y`, the neighbour named `n`. -/
theorem wp_sendY (c n : Dev nD) (hn : n = pY c) (i : Fin 16) {O O' : CellTallies nD τ sig Unit}
    (hO : O' = O + tallyAt (dcell (pY c) (kYr i)) () NB)
    {hsc : (yBlk c i : Memref sig (Dev.tc n : Thread nD τ).2.kind .vmem S16x512 .f32).view.ref.isScScratch = false}
    {hsrc : (xBlk c i).view.WordExact} {hdst : (yBlk c i).view.WordExact}
    {hsem : DmaTarget.Typed .vmem (.dma (qYr i)) (.remote (Dev.tc n : Thread nD τ) (yBlk c i) (.dma (qYs i)) hsc)}
    (p : PUnit → P F PUnit) (Q : PUnit → sProp 𝕄) :
    iprop(ctx X Kn ∗ (xpts c (xsrc c i) (X c) ∗ someO (pY c) (blk1 (pY c) i)
        ∗ dutyTok ER (dcell c (kYs i)) 0 false ∗ dutyTok ER (dcell (pY c) (kYr i)) 0 false) ∗ owing c O')
      ⊢ iprop(((cred (tallyAt (dcell c (kYs i)) () NB) ∗ owing c O) -∗ run c (p ⟨⟩) Q)
          -∗ run c (.op (.enqueueDma (xBlk c i) (.remote (Dev.tc n) (yBlk c i) (.dma (qYs i)) hsc) (.dma (qYr i)) hsrc hdst hsem) p) Q) := by
  subst hn
  unfold owing
  iintro ⟨#Hc, ⟨Hx, ⟨%f, Ho⟩, Hts, Htr⟩, ⟨%W, HO⟩⟩ Hk
  ihave #H1 := (ctx_dma X Kn c (kYs i)) $$ Hc
  icases H1 with ⟨#Hi1, #Hr1⟩
  ihave #H2 := (ctx_dma X Kn (pY c) (kYr i)) $$ Hc
  icases H2 with ⟨#Hi2, #Hr2⟩
  iapply (Rounds.wp_send_pointsTo 𝒱₀ ER (sched X) (c : Thread nD τ) none (c' := (Dev.tc (pY c) : Thread nD τ))
      (src := xBlk c i) (dst := yBlk c i) (sS := .dma (qYs i)) (sem := .dma (qYr i)) (q := fullShare) (fs := X c) (fd := f)
      (κ₁ := Kn (c, .inl (kYs i))) (κ₂ := Kn (pY c, .inl (kYr i))) (r₁ := 0) (r₂ := 0) (d₁ := false) (d₂ := false)
      (Finset.mem_singleton_self _) (Finset.mem_singleton_self _) () () NB rfl
      (amount_dma X c (kYs i) false) (amount_dma X (pY c) (kYr i) false) O hO (W := W)
      (by
        refine Entails.of_eq (Eq.trans ?_ (payload_dma X c (kYs i) false).symm)
        show xpts c (xBlk c i).view.set (X c) = xpts c (xsrc c i) (X c)
        rw [set_xBlk])
      (by
        refine Entails.of_eq (Eq.trans ?_ (payload_dma X (pY c) (kYr i) false).symm)
        show opts (pY c) (yBlk c i).view.set _ = opts (pY c) (blk1 (pY c) i) (outG X (pY c))
        rw [← set_yBlk]
        exact pointsTo_congr (landY X c i f))) $$ [Hx Ho Hts Htr HO]
  · isplitr; · iexact Hi1
    isplitr; · iexact Hi2
    isplitl [Hx]; · iapply (Entails.of_eq (show xpts c (xsrc c i) (X c) = xpts c (xBlk c i).view.set (X c) by rw [set_xBlk])) $$ Hx
    isplitl [Ho]; · iapply (Entails.of_eq (show opts (pY c) (blk1 (pY c) i) f = opts (pY c) (yBlk c i).view.set f by rw [set_yBlk])) $$ Ho
    isplitl [HO]; · iexact HO
    isplitl [Hts]; · iexact Hts
    isplitr; · iexact Hr1
    isplitl [Htr]; · iexact Htr
    iexact Hr2
  iintro ⟨Hcr, HO⟩
  iapply Hk
  isplitl [Hcr]; · iexact Hcr
  iexists _; iexact HO

/-- Passing block `i` on along `x`, the neighbour named `n`. -/
theorem wp_sendX (c n : Dev nD) (hn : n = pX c) (i : Fin 16) {O O' : CellTallies nD τ sig Unit}
    (hO : O' = O + tallyAt (dcell (pX c) (kXr i)) () NB)
    {hsc : (zBlk c i : Memref sig (Dev.tc n : Thread nD τ).2.kind .vmem S16x512 .f32).view.ref.isScScratch = false}
    {hsrc : (zBlk c i).view.WordExact} {hdst : (zBlk c i).view.WordExact}
    {hsem : DmaTarget.Typed .vmem (.dma (qXr i)) (.remote (Dev.tc n : Thread nD τ) (zBlk c i) (.dma (qXs i)) hsc)}
    (p : PUnit → P F PUnit) (Q : PUnit → sProp 𝕄) :
    iprop(ctx X Kn ∗ (opts c (blk1 c i) (outG X c) ∗ someO (pX c) (blk1 c i)
        ∗ dutyTok ER (dcell c (kXs i)) 0 false ∗ dutyTok ER (dcell (pX c) (kXr i)) 0 false) ∗ owing c O')
      ⊢ iprop(((cred (tallyAt (dcell c (kXs i)) () NB) ∗ owing c O) -∗ run c (p ⟨⟩) Q)
          -∗ run c (.op (.enqueueDma (zBlk c i) (.remote (Dev.tc n) (zBlk c i) (.dma (qXs i)) hsc) (.dma (qXr i)) hsrc hdst hsem) p) Q) := by
  subst hn
  unfold owing
  iintro ⟨#Hc, ⟨Hx, ⟨%f, Ho⟩, Hts, Htr⟩, ⟨%W, HO⟩⟩ Hk
  ihave #H1 := (ctx_dma X Kn c (kXs i)) $$ Hc
  icases H1 with ⟨#Hi1, #Hr1⟩
  ihave #H2 := (ctx_dma X Kn (pX c) (kXr i)) $$ Hc
  icases H2 with ⟨#Hi2, #Hr2⟩
  iapply (Rounds.wp_send_pointsTo 𝒱₀ ER (sched X) (c : Thread nD τ) none (c' := (Dev.tc (pX c) : Thread nD τ))
      (src := zBlk c i) (dst := zBlk c i) (sS := .dma (qXs i)) (sem := .dma (qXr i)) (q := fullShare) (fs := outG X c) (fd := f)
      (κ₁ := Kn (c, .inl (kXs i))) (κ₂ := Kn (pX c, .inl (kXr i))) (r₁ := 0) (r₂ := 0) (d₁ := false) (d₂ := false)
      (Finset.mem_singleton_self _) (Finset.mem_singleton_self _) () () NB rfl
      (amount_dma X c (kXs i) false) (amount_dma X (pX c) (kXr i) false) O hO (W := W)
      (by
        refine Entails.of_eq (Eq.trans ?_ (payload_dma X c (kXs i) false).symm)
        show opts c (zBlk c i).view.set (outG X c) = opts c (blk1 c i) (outG X c)
        rw [set_zBlk])
      (by
        refine Entails.of_eq (Eq.trans ?_ (payload_dma X (pX c) (kXr i) false).symm)
        show opts (pX c) (zBlk c i).view.set _ = opts (pX c) (blk1 (pX (pX c)) i) (outG X (pX c))
        rw [pX_pX, ← set_zBlk]
        exact pointsTo_congr (landX X c i f))) $$ [Hx Ho Hts Htr HO]
  · isplitr; · iexact Hi1
    isplitr; · iexact Hi2
    isplitl [Hx]; · iapply (Entails.of_eq (show opts c (blk1 c i) (outG X c) = opts c (zBlk c i).view.set (outG X c) by rw [set_zBlk])) $$ Hx
    isplitl [Ho]; · iapply (Entails.of_eq (show opts (pX c) (blk1 c i) f = opts (pX c) (zBlk c i).view.set f by rw [set_zBlk])) $$ Ho
    isplitl [HO]; · iexact HO
    isplitl [Hts]; · iexact Hts
    isplitr; · iexact Hr1
    isplitl [Htr]; · iexact Htr
    iexact Hr2
  iintro ⟨Hcr, HO⟩
  iapply Hk
  isplitl [Hcr]; · iexact Hcr
  iexists _; iexact HO

/-- Copying the half that stays. -/
theorem wp_copyOwn (c : Dev nD) (p : PUnit → P F PUnit) (Q : PUnit → sProp 𝕄) :
    iprop(ctx X Kn ∗ xpts c (xkeep c) (X c) ∗ someO c (own c) ∗ dutyTok ER (dcell c kL) 0 false)
      ⊢ iprop((cred (tallyAt (dcell c kL) () NL) -∗ run c (p ⟨⟩) Q) -∗ run c (copyOwn c >>= p) Q) := by
  simp only [copyOwn, Prog.lift, Prog.bind_op, Prog.bind_ret]
  iintro ⟨#Hc, Hx, ⟨%f, Ho⟩, Ht⟩ Hk
  ihave #H1 := (ctx_dma X Kn c kL) $$ Hc
  icases H1 with ⟨#Hi, #Hr⟩
  iapply (Rounds.wp_copy_pointsTo 𝒱₀ ER (sched X) (c : Thread nD τ) none (src := xOwn c) (dst := oOwn c) (sem := .dma qL)
      (q := fullShare) (fs := X c) (fd := f) (κ := Kn (c, .inl kL)) (r := 0) (d := false) (Finset.mem_singleton_self _) () NL rfl
      (amount_dma X c kL false)
      (by
        refine Entails.of_eq (Eq.trans ?_ (payload_dma X c kL false).symm)
        show iprop(opts c (oOwn c).view.set _ ∗ xpts c (xOwn c).view.set (X c)) = iprop(opts c (own c) (outG X c) ∗ xpts c (xkeep c) (X c))
        rw [← set_xOwn, ← set_oOwn]
        exact congrArg (fun R : sProp 𝕄 => iprop(R ∗ xpts c (xOwn c).view.set (X c))) (pointsTo_congr (landOwn X c f)))) $$ [Hx Ho Ht]
  · isplitr; · iexact Hi
    isplitl [Hx]; · iapply (Entails.of_eq (show xpts c (xkeep c) (X c) = xpts c (xOwn c).view.set (X c) by rw [set_xOwn])) $$ Hx
    isplitl [Ho]; · iapply (Entails.of_eq (show opts c (own c) f = opts c (oOwn c).view.set f by rw [set_oOwn])) $$ Ho
    isplitl [Ht]; · iexact Ht
    iexact Hr
  iexact Hk

/-! ## The loops -/

/-- A block's transfer along `y`, having left, gives back what it read; -/
theorem dmaPay_Ys (c : Dev nD) (i : Fin 16) : dmaPay X c (kYs i) = xpts c (xsrc c i) (X c) := rfl
/-- having arrived, it gives the rows of the output it wrote; -/
theorem dmaPay_Yr (c : Dev nD) (i : Fin 16) : dmaPay X c (kYr i) = opts c (blk1 c i) (outG X c) := rfl
/-- a transfer along `x`, having left, gives back the rows it read; -/
theorem dmaPay_Xs (c : Dev nD) (i : Fin 16) : dmaPay X c (kXs i) = opts c (blk1 c i) (outG X c) := rfl
/-- having arrived, it gives the rows it wrote; -/
theorem dmaPay_Xr (c : Dev nD) (i : Fin 16) : dmaPay X c (kXr i) = opts c (blk2 c i) (outG X c) := rfl
/-- the local copy gives what it wrote and what it read. -/
theorem dmaPay_L (c : Dev nD) : dmaPay X c kL = iprop(opts c (own c) (outG X c) ∗ xpts c (xkeep c) (X c)) := rfl

/-- One block's resources out of a set's. -/
theorem peel {i : Fin 16} {S : Finset (Fin 16)} (h : i ∉ S) (Φ : Fin 16 → sProp 𝕄) :
    bigSep (insert i S) Φ = iprop(Φ i ∗ bigSep S Φ) := bigSep_insert h

/-- A loop over the blocks, from its step: each block's resources become the step's results, what is still to be done
    shrinks block by block. -/
theorem wp_each (c : Dev nD) {p : Fin 16 → P F PUnit} {T D : Fin 16 → sProp 𝕄} {O : Finset (Fin 16) → CellTallies nD τ sig Unit}
    (h : ∀ (i : Fin 16) (S : Finset (Fin 16)), i ∉ S → ∀ (q : PUnit → P F PUnit) (Q : PUnit → sProp 𝕄),
      iprop(ctx X Kn ∗ T i ∗ owing c (O (insert i S))) ⊢ iprop(((D i ∗ owing c (O S)) -∗ run c (q ⟨⟩) Q) -∗ run c (p i >>= q) Q))
    (q : PUnit → P F PUnit) (Q : PUnit → sProp 𝕄) : ∀ l : List (Fin 16), l.Nodup →
    iprop(ctx X Kn ∗ bigSep l.toFinset T ∗ owing c (O l.toFinset))
      ⊢ iprop(((bigSep l.toFinset D ∗ owing c (O ∅)) -∗ run c (q ⟨⟩) Q) -∗ run c (each p l >>= q) Q)
  | [], _ => by
    iintro ⟨-, HT, HO⟩ Hk
    iapply Hk
    isplitl [HT]; · iempintro
    iexact HO
  | i :: l, hl => by
    have hi : i ∉ l.toFinset := fun h' => (List.nodup_cons.mp hl).1 (List.mem_toFinset.mp h')
    rw [show (each p (i :: l) >>= q) = (p i >>= fun _ => each p l >>= q) from bind_assoc _ _ _, List.toFinset_cons,
      peel hi, peel hi]
    iintro ⟨#Hc, ⟨HT, HTs⟩, HO⟩ Hk
    iapply (h i l.toFinset hi (fun _ => each p l >>= q) Q) $$ [HT HO]
    · isplitr; · iexact Hc
      isplitl [HT] <;> iassumption
    iintro ⟨HD, HO⟩
    iapply (wp_each c h q Q l (List.nodup_cons.mp hl).2) $$ [HTs HO]
    · isplitr; · iexact Hc
      isplitl [HTs] <;> iassumption
    iintro ⟨HDs, HO⟩
    iapply Hk
    isplitl [HD HDs]
    · isplitl [HD] <;> iassumption
    iexact HO

/-- The same over all sixteen blocks. -/
theorem wp_blocks (c : Dev nD) {p : Fin 16 → P F PUnit} {T D : Fin 16 → sProp 𝕄} {O : Finset (Fin 16) → CellTallies nD τ sig Unit}
    (h : ∀ (i : Fin 16) (S : Finset (Fin 16)), i ∉ S → ∀ (q : PUnit → P F PUnit) (Q : PUnit → sProp 𝕄),
      iprop(ctx X Kn ∗ T i ∗ owing c (O (insert i S))) ⊢ iprop(((D i ∗ owing c (O S)) -∗ run c (q ⟨⟩) Q) -∗ run c (p i >>= q) Q))
    (q : PUnit → P F PUnit) (Q : PUnit → sProp 𝕄) :
    iprop(ctx X Kn ∗ bigSep Finset.univ T ∗ owing c (O Finset.univ))
      ⊢ iprop(((bigSep Finset.univ D ∗ owing c (O ∅)) -∗ run c (q ⟨⟩) Q) -∗ run c (each p blocks >>= q) Q) := by
  have e : (Finset.univ : Finset (Fin 16)) = blocks.toFinset := by decide
  rw [e]
  exact wp_each X Kn c h q Q blocks (by decide)

/-- The first loop: every block sent along `y`. -/
theorem loop_sendY (c : Dev nD) (q : PUnit → P F PUnit) (Q : PUnit → sProp 𝕄) :
    iprop(ctx X Kn ∗ (bigSep Finset.univ fun i => iprop(xpts c (xsrc c i) (X c) ∗ someO (pY c) (blk1 (pY c) i)
          ∗ dutyTok ER (dcell c (kYs i)) 0 false ∗ dutyTok ER (dcell (pY c) (kYr i)) 0 false))
        ∗ owing c (oweX c Finset.univ + oweY c Finset.univ))
      ⊢ iprop((((bigSep Finset.univ fun i => cred (tallyAt (dcell c (kYs i)) () NB)) ∗ owing c (oweX c Finset.univ + oweY c ∅)) -∗ run c (q ⟨⟩) Q)
          -∗ run c (each (sendY c) blocks >>= q) Q) :=
  wp_blocks X Kn c (O := fun S => oweX c Finset.univ + oweY c S) (fun i S hi q Q => by
    simp only [sendY, Prog.lift, Prog.bind_op, Prog.bind_ret]
    exact wp_sendY X Kn c _ (kY_eq c) i (by rw [oweY_insert c hi, add_assoc]) q Q) q Q

/-- The second: every block awaited along `y` and passed on along `x`. -/
theorem loop_passX (c : Dev nD) (q : PUnit → P F PUnit) (Q : PUnit → sProp 𝕄) :
    iprop(ctx X Kn ∗ (bigSep Finset.univ fun i => iprop((cred (tallyAt (dcell c (kYr i)) () NB) ∗ atPos ER (dcell c (kYr i)) 0 ∅ 0)
          ∗ someO (pX c) (blk1 c i) ∗ dutyTok ER (dcell c (kXs i)) 0 false ∗ dutyTok ER (dcell (pX c) (kXr i)) 0 false))
        ∗ owing c (oweX c Finset.univ))
      ⊢ iprop((((bigSep Finset.univ fun i => iprop(semVal (dcell c (kYr i)) 0 ∗ cred (tallyAt (dcell c (kXs i)) () NB))) ∗ owing c (oweX c ∅)) -∗ run c (q ⟨⟩) Q)
          -∗ run c (each (fun i => awaitY c i >>= fun _ => sendX c i) blocks >>= q) Q) :=
  wp_blocks X Kn c (O := fun S => oweX c S) (fun i S hi q Q => by
    simp only [awaitY, sendX, Prog.lift, Prog.bind_op, Prog.bind_ret]
    iintro ⟨#Hc, ⟨⟨Hcr, Hat⟩, Ho, Ht1, Ht2⟩, HO⟩ Hk
    iapply (wp_take X Kn c (kYr i) (qOf_Yr i) (credit_yBlk c i)
      (after_oweX c (insert i S) (b := lv (dcell c (kYr i)) ()) (by rw [lv_Yr]; decide)) _ Q) $$ [Hcr Hat HO]
    · isplitr; · iexact Hc
      isplitl [Hcr]; · iexact Hcr
      isplitl [Hat] <;> iassumption
    iintro ⟨⟨Hz, Hb⟩, HO⟩
    iapply (wp_sendX X Kn c _ (kX_eq c) i (oweX_insert c hi) q Q) $$ [Hb Ho Ht1 Ht2 HO]
    · isplitr; · iexact Hc
      isplitl [Hb Ho Ht1 Ht2]
      · isplitl [Hb]; · iapply (Entails.of_eq (dmaPay_Yr X c i)) $$ Hb
        isplitl [Ho]; · iexact Ho
        isplitl [Ht1] <;> iassumption
      iexact HO
    iintro ⟨Hcr, HO⟩
    iapply Hk
    isplitl [Hz Hcr]
    · isplitl [Hz] <;> iassumption
    iexact HO) q Q

/-- The third: every block awaited along `x`. -/
theorem loop_awaitX (c : Dev nD) (q : PUnit → P F PUnit) (Q : PUnit → sProp 𝕄) :
    iprop(ctx X Kn ∗ (bigSep Finset.univ fun i => iprop(cred (tallyAt (dcell c (kXr i)) () NB) ∗ atPos ER (dcell c (kXr i)) 0 ∅ 0)) ∗ owing c 0)
      ⊢ iprop((((bigSep Finset.univ fun i => iprop(semVal (dcell c (kXr i)) 0 ∗ opts c (blk2 c i) (outG X c))) ∗ owing c 0) -∗ run c (q ⟨⟩) Q)
          -∗ run c (each (awaitX c) blocks >>= q) Q) :=
  wp_blocks X Kn c (O := fun _ => 0) (fun i S hi q Q => by
    simp only [awaitX, Prog.lift, Prog.bind_op, Prog.bind_ret]
    iintro ⟨#Hc, ⟨Hcr, Hat⟩, HO⟩ Hk
    iapply (wp_take X Kn c (kXr i) (qOf_Xr i) (credit_zBlk c i) (after_zero _) _ Q) $$ [Hcr Hat HO]
    · isplitr; · iexact Hc
      isplitl [Hcr]; · iexact Hcr
      isplitl [Hat] <;> iassumption
    iexact Hk) q Q

/-- The last: every block's two outgoing transfers finished with. -/
theorem loop_drain (c : Dev nD) (q : PUnit → P F PUnit) (Q : PUnit → sProp 𝕄) :
    iprop(ctx X Kn ∗ (bigSep Finset.univ fun i => iprop((cred (tallyAt (dcell c (kYs i)) () NB) ∗ atPos ER (dcell c (kYs i)) 0 ∅ 0)
          ∗ (cred (tallyAt (dcell c (kXs i)) () NB) ∗ atPos ER (dcell c (kXs i)) 0 ∅ 0))) ∗ owing c 0)
      ⊢ iprop((((bigSep Finset.univ fun i => iprop((semVal (dcell c (kYs i)) 0 ∗ xpts c (xsrc c i) (X c))
            ∗ (semVal (dcell c (kXs i)) 0 ∗ opts c (blk1 c i) (outG X c)))) ∗ owing c 0) -∗ run c (q ⟨⟩) Q)
          -∗ run c (each (fun i => drainY c i >>= fun _ => drainX c i) blocks >>= q) Q) :=
  wp_blocks X Kn c (O := fun _ => 0) (fun i S hi q Q => by
    simp only [drainY, drainX, Prog.lift, Prog.bind_op, Prog.bind_ret]
    iintro ⟨#Hc, ⟨⟨Hcr, Hat⟩, ⟨Hcr', Hat'⟩⟩, HO⟩ Hk
    iapply (wp_take X Kn c (kYs i) (qOf_Ys i) (credit_xBlk c i) (after_zero _) _ Q) $$ [Hcr Hat HO]
    · isplitr; · iexact Hc
      isplitl [Hcr]; · iexact Hcr
      isplitl [Hat] <;> iassumption
    rw [dmaPay_Ys]
    iintro ⟨H, HO⟩
    iapply (wp_take X Kn c (kXs i) (qOf_Xs i) (credit_zBlk c i) (after_zero _) _ Q) $$ [Hcr' Hat' HO]
    · isplitr; · iexact Hc
      isplitl [Hcr']; · iexact Hcr'
      isplitl [Hat'] <;> iassumption
    rw [dmaPay_Xs]
    iintro ⟨H', HO⟩
    iapply Hk
    isplitl [H H']
    · isplitl [H] <;> iassumption
    iexact HO) q Q

end Cert.A2A

end
-- ==== Proof.Whole.lean ====
/-
# The whole body on one device

The device's buffers cut into the blocks the kernel moves and put together again, the meeting at the barrier, and the
run of the body from what a device starts with to the output in place and every counter back at zero.
-/
module

public import proofs.«01_k».proof.Proof.Body

@[expose] public section

set_option maxRecDepth 16384

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → (cc0_stg0_0 : Ref sig .tc).ty.Contents (Elt F))
variable (Kn : Dev nD × (K ⊕ Unit) → ℕ)

/-- Assertions that follow from each other are equal. -/
theorem biEq {A B : sProp 𝕄} (h : A ⊣⊢ B) : A = B := BI.equiv_iff.mp ⟨h.1, h.2⟩

/-! ## Families of counters -/

/-- Over all transfer counters: over the blocks, four times, and the local copy's. -/
theorem fam (Φ : K → sProp 𝕄) : bigSep Finset.univ Φ
    = iprop(((bigSep Finset.univ fun i => Φ (kYs i)) ∗ (bigSep Finset.univ fun i => Φ (kYr i))
        ∗ (bigSep Finset.univ fun i => Φ (kXs i)) ∗ (bigSep Finset.univ fun i => Φ (kXr i))) ∗ Φ kL) := by
  rw [bigSep_univ_sum, bigSep_univ_prod, bigSep_univ_eq_bigSepL [0, 1, 2, 3] (by decide) (by decide),
    show (Finset.univ : Finset Unit) = {()} from rfl, bigSep_singleton,
    bigSepL_cons_cons, bigSepL_cons_cons, bigSepL_cons_cons, bigSepL_singleton]
  rfl

/-- Over all counters: over the transfer counters, and the barrier's. -/
theorem fam_bar (Φ : K ⊕ Unit → sProp 𝕄) : bigSep Finset.univ Φ
    = iprop((bigSep Finset.univ fun k => Φ (.inl k)) ∗ Φ (.inr ())) := by
  rw [bigSep_univ_sum, show (Finset.univ : Finset Unit) = {()} from rfl, bigSep_singleton]
  rfl

/-- Two families over the blocks as one. -/
theorem zip (A B : Fin 16 → sProp 𝕄) :
    iprop(bigSep Finset.univ A ∗ bigSep Finset.univ B) = bigSep Finset.univ fun i => iprop(A i ∗ B i) := (bigSep_sep' _ A B).symm

/-! ## Cutting the buffers -/

/-- What of the input no transfer reads. -/
def xrest (c : Dev nD) : Finset XI := Finset.univ \ (xkeep c ∪ Finset.univ.biUnion (xsrc c))

/-- The input block is the half that stays, the sixteen blocks sent, and the rest. -/
theorem cut_x (c : Dev nD) (f : (cc0_stg0_0 : Ref sig .tc).ty.Contents (Elt F)) :
    (xpts c Finset.univ f : sProp 𝕄)
      = iprop((xpts c (xkeep c) f ∗ bigSep Finset.univ fun i => xpts c (xsrc c i) f) ∗ xpts c (xrest c) f) := by
  have hd : Disjoint (xkeep c) (Finset.univ.biUnion (xsrc c)) := by
    rw [Finset.disjoint_biUnion_right]
    intro i _
    rw [Finset.disjoint_left]
    intro j h1 h2
    have h1 := mem_boxX.mp h1
    have h2 := mem_boxX.mp h2
    omega
  unfold xpts
  rw [biEq (pointsTo_split_subset (Finset.subset_univ (xkeep c ∪ Finset.univ.biUnion (xsrc c)))),
    biEq (pointsTo_union hd), pointsTo_biUnion]
  · rfl
  intro i _ i' _ hne
  rw [Finset.disjoint_left]
  intro j h1 h2
  have h1 := mem_boxX.mp h1
  have h2 := mem_boxX.mp h2
  exact hne (Fin.ext (by omega))

/-- The output is the device's own half and the blocks it receives along `y` and along `x`. -/
theorem cut_o (c : Dev nD) (f : (cc0_stg1_0 : Ref sig .tc).ty.Contents (Elt F)) :
    (opts c Finset.univ f : sProp 𝕄)
      = iprop(opts c (own c) f ∗ (bigSep Finset.univ fun i => opts c (blk1 c i) f) ∗ bigSep Finset.univ fun i => opts c (blk2 c i) f) := by
  have hc := dev_cases c
  have hX : (pX c).val = (c.val % 2 + 2) - 2 * (c.val / 2) := rfl
  have hne1 : ∀ d : Dev nD, ∀ i ∈ (Finset.univ : Finset (Fin 16)), ∀ i' ∈ (Finset.univ : Finset (Fin 16)), i ≠ i' →
      Disjoint (blk1 d i) (blk1 d i') := by
    intro d i _ i' _ hne
    rw [Finset.disjoint_left]
    intro j h1 h2
    have h1 := mem_rows.mp h1
    have h2 := mem_rows.mp h2
    unfold row1 at h1 h2
    exact hne (Fin.ext (by omega))
  have hd12 : Disjoint (Finset.univ.biUnion (blk1 c)) (Finset.univ.biUnion (blk2 c)) := by
    rw [Finset.disjoint_biUnion_left]
    intro i _
    rw [Finset.disjoint_biUnion_right]
    intro i' _
    rw [Finset.disjoint_left]
    intro j h1 h2
    have h1 := mem_rows.mp h1
    have h2 := mem_rows.mp h2
    have hi := i.isLt
    have hi' := i'.isLt
    unfold row2 at h2
    unfold row1 at h1 h2
    omega
  have hd0 : Disjoint (own c) (Finset.univ.biUnion (blk1 c) ∪ Finset.univ.biUnion (blk2 c)) := by
    rw [Finset.disjoint_union_right, Finset.disjoint_biUnion_right, Finset.disjoint_biUnion_right]
    constructor <;> intro i _ <;> rw [Finset.disjoint_left] <;> intro j h1 h2 <;>
      (have h1 := mem_rows.mp h1; have h2 := mem_rows.mp h2; have hi := i.isLt; try unfold row2 at h2
       unfold row1 at h2; omega)
  have hu : (Finset.univ : Finset OI) = own c ∪ (Finset.univ.biUnion (blk1 c) ∪ Finset.univ.biUnion (blk2 c)) := by
    symm
    rw [Finset.eq_univ_iff_forall]
    intro j
    have hj := orow_lt j
    by_cases h0 : orow j / 512 = c.val % 2
    · exact Finset.mem_union_left _ (mem_rows.mpr (by omega))
    refine Finset.mem_union_right _ ?_
    have hi : orow j % 256 / 16 < 16 := by omega
    by_cases h1 : orow j % 512 / 256 = c.val / 2
    · refine Finset.mem_union_left _ (Finset.mem_biUnion.mpr ⟨⟨orow j % 256 / 16, hi⟩, Finset.mem_univ _, mem_rows.mpr ?_⟩)
      unfold row1
      dsimp only
      omega
    · refine Finset.mem_union_right _ (Finset.mem_biUnion.mpr ⟨⟨orow j % 256 / 16, hi⟩, Finset.mem_univ _, mem_rows.mpr ?_⟩)
      unfold row2 row1
      dsimp only
      omega
  unfold opts
  rw [hu, biEq (pointsTo_union hd0), biEq (pointsTo_union hd12), pointsTo_biUnion _ _ (hne1 c), pointsTo_biUnion _ _ (hne1 (pX c))]

/-! ## Meeting at the barrier -/

/-- The barrier: the device hands either neighbour the blocks that neighbour writes, and gets the neighbours' blocks it
    writes itself. -/
theorem wp_meet (c : Dev nD) (p : PUnit → P F PUnit) (Q : PUnit → sProp 𝕄) :
    iprop(ctx X Kn ∗ (dutyTok ER (bcell (pY c)) 0 false ∗ dutyTok ER (bcell (pX c)) 0 true)
        ∗ ((bigSep Finset.univ fun i => someO c (blk1 c i)) ∗ bigSep Finset.univ fun i => someO c (blk2 c i))
        ∗ (cred (tallyAt (bcell c) () 2) ∗ atPos ER (bcell c) 0 ∅ 0) ∗ owing c (owe0 c))
      ⊢ iprop(((semVal (bcell c) 0 ∗ ((bigSep Finset.univ fun i => someO (pX c) (blk1 c i)) ∗ bigSep Finset.univ fun i => someO (pY c) (blk1 (pY c) i))
            ∗ owing c (oweX c Finset.univ + oweY c Finset.univ)) -∗ run c (p ⟨⟩) Q)
          -∗ run c (meet c >>= p) Q) := by
  simp only [meet, semSignalWord, semWaitWord, Prog.lift, Prog.bind_op, Prog.bind_ret, Prog.pure_eq_ret, bind_assoc, dev1_eq, dev2_eq]
  unfold owing
  iintro ⟨#Hc, ⟨HtY, HtX⟩, ⟨Ho1, Ho2⟩, ⟨Hcr, Hat⟩, ⟨%W, HO⟩⟩ Hk
  ihave #H0 := (ctx_bar X Kn c) $$ Hc
  icases H0 with ⟨#Hi0, -⟩
  ihave #H1 := (ctx_bar X Kn (pY c)) $$ Hc
  icases H1 with ⟨#Hi1, #Hr1⟩
  ihave #H2 := (ctx_bar X Kn (pX c)) $$ Hc
  icases H2 with ⟨#Hi2, #Hr2⟩
  ihave #Hl := (ctx_lev X Kn) $$ Hc
  iapply (Rounds.wp_signal 𝒱₀ ER (sched X) (c : Thread nD τ) none (dst := (pY c : Thread nD τ)) (κ := Kn (pY c, .inr ())) (r := 0)
      (d := false) (Finset.mem_univ _) ((amount_bar X (pY c) false).trans (by decide)) () (O₀ := owe0 c) (owe1 c) rfl (W := W)) $$ [HO HtY Ho1]
  · isplitr; · iexact Hi1
    isplitl [HO]; · iexact HO
    isplitl [HtY]; · iexact HtY
    isplitl [Ho1]
    · rw [payload_bar]; unfold barPay; rw [pY_pY]; iexact Ho1
    iexact Hr1
  iintro HO
  iapply (Rounds.wp_signal 𝒱₀ ER (sched X) (c : Thread nD τ) none (dst := (pX c : Thread nD τ)) (κ := Kn (pX c, .inr ())) (r := 0)
      (d := true) (Finset.mem_univ _) ((amount_bar X (pX c) true).trans (by decide)) () (O₀ := owe1 c)
      (oweX c Finset.univ + oweY c Finset.univ) rfl (W := W)) $$ [HO HtX Ho2]
  · isplitr; · iexact Hi2
    isplitl [HO]; · iexact HO
    isplitl [HtX]; · iexact HtX
    isplitl [Ho2]
    · rw [payload_bar]; unfold barPay; rw [pX_pX]; iexact Ho2
    iexact Hr2
  iintro HO
  iapply (Rounds.wp_wait_rest_token 𝒱₀ ER (sched X) (c : Thread nD τ) none (κ := Kn (c, .inr ()))
      (wpE_semWait_eq 𝒱₀ (c : Thread nD τ) none Set.univ) (Set.mem_univ _) () (O := oweX c Finset.univ + oweY c Finset.univ) (W := W)
      (R := 0) (m := 0) (T := ∅) (by rw [expect_bar]; decide)) $$ [Hcr HO Hat]
  · isplitr; · iexact Hi0
    isplitl [Hcr]; · iexact Hcr
    isplitl [HO]; · iexact HO
    isplitr
    · iapply (mayWait c (.reg barS) ((after_oweX c _ (b := 1) (by decide)).add (after_oweY c _ (by decide)))); iexact Hl
    iexact Hat
  iintro ⟨HO, Hat, -, Hpay⟩
  ihave Hp := (Entails.of_eq (rest_bar X c)) $$ Hpay
  imod (Rounds.cell_close ER (sched X) (Set.mem_univ (Kn (c, .inr ()))) (fun h => h) (R := 0 + 1) (duties_later X (bcell c))) $$ [Hat] with Hz
  · isplitr; · iexact Hi0
    iexact Hat
  iapply Hk
  isplitl [Hz]; · iexact Hz
  isplitl [Hp]; · unfold barPay; iexact Hp
  iexists _; iexact HO

/-! ## What a device starts from -/

/-- A duty a device pays: a transfer counter's, or a unit at a neighbour's barrier. -/
abbrev J : Type := K ⊕ Bool

/-- Whose counter it is. -/
def tgt (c : Dev nD) : J → Dev nD
  | .inl (.inl (a, _)) => match a with
    | 1 => pY c
    | 3 => pX c
    | _ => c
  | .inl (.inr _) => c
  | .inr false => pY c
  | .inr true => pX c

/-- The payer of a duty of a duty's payer is the device again: payers come in pairs. -/
theorem tgt_tgt (c : Dev nD) (j : J) : tgt (tgt c j) j = c := by
  rcases j with (⟨a, i⟩ | u) | d
  · fin_cases a
    · rfl
    · exact pY_pY c
    · rfl
    · exact pX_pX c
  · rfl
  · cases d
    · exact pY_pY c
    · exact pX_pX c

/-- A duty of device `c`'s counters: the counter and the duty's name; its token. -/
def jkey (c : Dev nD) : J → GSem nD τ sig × ℕ × Bool
  | .inl k => (dcell c k, 0, false)
  | .inr d => (bcell c, 0, d)
/-- The token of a duty on device `c`. -/
def jtok (c : Dev nD) (j : J) : sProp 𝕄 := dutyTok ER (jkey c j).1 (jkey c j).2.1 (jkey c j).2.2

/-- A device's start: its place at every counter of its own, the tokens of the duties it pays, the credit it waits for. -/
def start (c : Dev nD) : sProp 𝕄 :=
  iprop((bigSep Finset.univ fun k : K ⊕ Unit => atPos ER (cell (c, k)) 0 ∅ 0) ∗ (bigSep Finset.univ fun j : J => jtok (tgt c j) j)
    ∗ cred (tallyAt (bcell c) () 2) ∗ (bigSep Finset.univ fun i => cred (tallyAt (dcell c (kYr i)) () NB))
    ∗ bigSep Finset.univ fun i => cred (tallyAt (dcell c (kXr i)) () NB))

/-- The end: the input as it was, the output in place, every counter at zero. -/
def done (c : Dev nD) : sProp 𝕄 :=
  iprop((xpts c Finset.univ (X c) ∗ opts c Finset.univ (outG X c)) ∗ (bigSep Finset.univ fun k => semVal (dcell c k) 0) ∗ semVal (bcell c) 0)

/-- The tokens one by one. -/
theorem tokens_eq (c : Dev nD) : (bigSep Finset.univ fun j : J => (jtok (tgt c j) j : sProp 𝕄))
    = iprop((((bigSep Finset.univ fun i => dutyTok ER (dcell c (kYs i)) 0 false) ∗ (bigSep Finset.univ fun i => dutyTok ER (dcell (pY c) (kYr i)) 0 false)
          ∗ (bigSep Finset.univ fun i => dutyTok ER (dcell c (kXs i)) 0 false) ∗ (bigSep Finset.univ fun i => dutyTok ER (dcell (pX c) (kXr i)) 0 false))
          ∗ dutyTok ER (dcell c kL) 0 false)
        ∗ dutyTok ER (bcell (pX c)) 0 true ∗ dutyTok ER (bcell (pY c)) 0 false) := by
  rw [bigSep_univ_sum, fam, bigSep_univ_at _ true, show (Finset.univ.erase true : Finset Bool) = {false} by decide, bigSep_singleton]
  rfl

/-- Blocks holding something known hold something. -/
theorem forget (c : Dev nD) (S : Fin 16 → Finset OI) (f : (cc0_stg1_0 : Ref sig .tc).ty.Contents (Elt F)) :
    (bigSep Finset.univ fun i => (opts c (S i) f : sProp 𝕄)) ⊢ bigSep Finset.univ fun i => someO c (S i) :=
  bigSep_mono fun i _ => show (opts c (S i) f : sProp 𝕄) ⊢ someO c (S i) by iintro H; iexists f; iexact H

/-- With no block left nothing is owed along `y`, -/
theorem oweY_empty (c : Dev nD) : oweY c ∅ = 0 := Finset.sum_empty
/-- nor along `x`. -/
theorem oweX_empty (c : Dev nD) : oweX c ∅ = 0 := Finset.sum_empty

/-- The end of a program. -/
theorem run_ret (c : Dev nD) (Q : PUnit → sProp 𝕄) : Q ⟨⟩ ⊢ run c (.ret ⟨⟩) Q := by
  show Q ⟨⟩ ⊢ wp frame _ _ _ _
  rw [wp_ret]
  iintro H
  imodintro
  iexact H

/-! ## The run -/

/-- The body of device `c`, from its start to the end. -/
theorem wp_program (c : Dev nD) (Q : PUnit → sProp 𝕄) :
    iprop(ctx X Kn ∗ start c ∗ (xpts c Finset.univ (X c) ∗ someO c Finset.univ) ∗ owing c (owe0 c))
      ⊢ iprop(((done X c ∗ owing c 0) -∗ Q ⟨⟩) -∗ run c program Q) := by
  unfold start done
  rw [fam_bar, fam, tokens_eq, cut_x, fam]
  simp only [program, Prog.lift, Prog.bind_op, Prog.bind_ret, wp_deviceId]
  iintro ⟨#Hc, ⟨⟨⟨⟨HaYs, HaYr, HaXs, HaXr⟩, HaL⟩, HaB⟩, ⟨⟨⟨HtYs, HtYr, HtXs, HtXr⟩, HtL⟩, HtBX, HtBY⟩, HcB, HcYr, HcXr⟩,
    ⟨⟨⟨Hxk, Hxs⟩, Hxr⟩, ⟨%f, Ho⟩⟩, HO⟩ Hk
  ihave Ho := (Entails.of_eq (cut_o c f)) $$ Ho
  icases Ho with ⟨Ho0, Ho1, Ho2⟩
  ihave Ho1 := (forget c (blk1 c) f) $$ Ho1
  ihave Ho2 := (forget c (blk2 c) f) $$ Ho2
  iapply (wp_meet X Kn c _ Q) $$ [HtBX HtBY Ho1 Ho2 HcB HaB HO]
  · isplitr; · iexact Hc
    isplitl [HtBX HtBY]; · isplitl [HtBY] <;> iassumption
    isplitl [Ho1 Ho2]; · isplitl [Ho1] <;> iassumption
    isplitl [HcB HaB]; · (isplitl [HcB]; · iexact HcB); iexact HaB
    iexact HO
  iintro ⟨HzB, ⟨HoX, HoY⟩, HO⟩
  iapply (loop_sendY X Kn c _ Q) $$ [Hxs HoY HtYs HtYr HO]
  · isplitr; · iexact Hc
    isplitl [Hxs HoY HtYs HtYr]
    · rw [← zip, ← zip, ← zip]
      isplitl [Hxs]; · iexact Hxs
      isplitl [HoY]; · iexact HoY
      isplitl [HtYs] <;> iassumption
    iexact HO
  rw [oweY_empty, add_zero]
  iintro ⟨HcYs, HO⟩
  iapply (wp_copyOwn X Kn c _ Q) $$ [Hxk Ho0 HtL]
  · isplitr; · iexact Hc
    isplitl [Hxk]; · iexact Hxk
    isplitl [Ho0]; · iexists f; iexact Ho0
    iexact HtL
  iintro HcL
  iapply (loop_passX X Kn c _ Q) $$ [HcYr HaYr HoX HtXs HtXr HO]
  · isplitr; · iexact Hc
    isplitl [HcYr HaYr HoX HtXs HtXr]
    · rw [← zip, ← zip, ← zip, ← zip]
      isplitl [HcYr HaYr]; · (isplitl [HcYr]; · iexact HcYr); iexact HaYr
      isplitl [HoX]; · iexact HoX
      isplitl [HtXs] <;> iassumption
    iexact HO
  rw [oweX_empty, ← zip]
  iintro ⟨⟨HzYr, HcXs⟩, HO⟩
  iapply (loop_awaitX X Kn c _ Q) $$ [HcXr HaXr HO]
  · isplitr; · iexact Hc
    isplitl [HcXr HaXr]
    · rw [← zip]
      (isplitl [HcXr]; · iexact HcXr); iexact HaXr
    iexact HO
  rw [← zip]
  iintro ⟨⟨HzXr, Ho2⟩, HO⟩
  iapply (loop_drain X Kn c _ Q) $$ [HcYs HaYs HcXs HaXs HO]
  · isplitr; · iexact Hc
    isplitl [HcYs HaYs HcXs HaXs]
    · rw [← zip, ← zip, ← zip]
      isplitl [HcYs HaYs]; · (isplitl [HcYs]; · iexact HcYs); iexact HaYs
      (isplitl [HcXs]; · iexact HcXs); iexact HaXs
    iexact HO
  rw [← zip, ← zip, ← zip]
  iintro ⟨⟨⟨HzYs, Hxs⟩, ⟨HzXs, Ho1⟩⟩, HO⟩
  simp only [awaitOwn, Prog.lift]
  iapply (wp_take X Kn c kL qOf_L (credit_oOwn c) (after_zero _) _ Q) $$ [HcL HaL HO]
  · isplitr; · iexact Hc
    isplitl [HcL]; · iexact HcL
    (isplitl [HaL]; · iexact HaL); iexact HO
  rw [dmaPay_L]
  iintro ⟨⟨HzL, Ho0, Hxk⟩, HO⟩
  iapply (run_ret c Q)
  iapply Hk
  isplitr [HO]
  · isplitl [Hxk Hxs Hxr Ho0 Ho1 Ho2]
    · isplitl [Hxk Hxs Hxr]
      · isplitl [Hxk Hxs]
        · isplitl [Hxk] <;> iassumption
        iexact Hxr
      rw [cut_o]
      isplitl [Ho0]; · iexact Ho0
      isplitl [Ho1] <;> iassumption
    isplitr [HzB]
    · isplitr [HzL]
      · isplitl [HzYs]; · iexact HzYs
        isplitl [HzYr]; · iexact HzYr
        isplitl [HzXs] <;> iassumption
      iexact HzL
    iexact HzB
  iexact HO

end Cert.A2A

end
-- ==== Proof.Launch.lean ====
/-
# The run of all devices

The body's rule made the launch's obligation, the counters' ghost state dealt out to the devices, the credit each
device starts with, and from them the run of the whole program on the mesh.
-/
module

public import proofs.«01_k».proof.Proof.Whole
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.A2A

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The machine at launch: any memory, every counter zero. -/
def s₀ : MemSt nD τ sig (Elt F) := ⟨m, fun _ => 0, ρ⟩

/-- Each device's input block, as the kernel finds it. -/
def xin (c : Dev nD) : (cc0_stg0_0 : Ref sig .tc).ty.Contents (Elt F) :=
  (win0_0.blk (0 : Fin 1)).view.read (Elt F) ((s₀ m ρ).mem ((c : Thread nD τ).loc main_arg0))

/-! ## The launch's data -/

/-- Before the body: the counters' context, the device's start, and the order of waiting. After it: every counter at
    zero. -/
def before0 (c : Dev nD) : sProp 𝕄 := iprop(∃ Kn, ctx (xin m ρ) Kn ∗ start c)
/-- After it: every counter at zero. -/
def after0 (c : Dev nD) : sProp 𝕄 := iprop((bigSep Finset.univ fun k => semVal (dcell c k) 0) ∗ semVal (bcell c) 0)

/-- The pipeline's data: the arrays at launch, what the body leaves in each staging buffer, and what it takes and gives. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outG (xin m ρ) c
  Φ t := match t with
    | ⟨0, _⟩ => before0 m ρ c
    | ⟨_ + 1, _⟩ => after0 c
  q _ := fullShare
  owed t := match t with
    | ⟨0, _⟩ => owe0 c
    | ⟨_ + 1, _⟩ => 0

/-- The input is fetched at the one grid point. -/
theorem fetch_x (t : Fin cfg0.N) : (cfg0.win (0 : Fin 2)).fetch t = true := by rw [fin_N0 t]; rfl

/-- Holding a whole buffer at given contents. -/
abbrev held (c : Dev nD) (b : Ref sig .tc) (Z : b.ty.Contents (Elt F)) : sProp 𝕄 :=
  iprop(∃ f : Buf (Elt F) (((c : Dev nD) : Thread nD τ).loc b), ⌜f = Z⌝ ∗ (((c : Thread nD τ).loc b) ↦{fullShare} f))

/-- Owning a whole staging buffer is holding it. -/
theorem owns_held (c : Dev nD) (b : Ref sig .tc) (Z : b.ty.Contents (Elt F)) :
    (owns (Ix := Unit) (Name := ℕ) (U := UU) (Lvl := ℕ) (c : Thread nD τ) (Memref.whole b) fullShare Z : sProp 𝕄) = held c b Z := by
  unfold owns; simp only [Memref.view_whole, View.read_whole, View.set_whole]

/-- The state before and after the one grid point. -/
def pre (c : Dev nD) : sProp 𝕄 :=
  iprop(before0 m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
/-- The state after it. -/
def post (c : Dev nD) : sProp 𝕄 :=
  iprop(after0 c ∗ (dats m ρ 0 c).owesAt () t0_0.succ ∗ held c cc0_stg0_0 (xin m ρ c) ∗ held c cc0_stg1_0 (outG (xin m ρ) c))

/-- The body's rule in the launch's terms. -/
theorem wp_body (c : Dev nD) : pre m ρ c ⊢ run c program (fun _ => post m ρ c) := by
  unfold pre before0
  iintro ⟨⟨%Kn, #Hc, Hs⟩, Ho, ⟨%d0, %g0, %h0, Hx⟩, ⟨%d1, %g1, %h1, Hout⟩⟩
  have hx : g0 = xin m ρ c := by rw [h0]; unfold Dat.before; rw [if_pos (fetch_x t0_0)]; rfl
  subst hx
  unfold Dat.owesAt Pipeline.owesWithin
  icases Ho with ⟨%W, %hW, HO⟩
  rw [show (dats m ρ 0 c).owed t0_0.castSucc = owe0 c from rfl]
  iapply (wp_program (xin m ρ) Kn c fun _ => post m ρ c) $$ [Hs Hx Hout HO]
  · isplitr; · iexact Hc
    isplitl [Hs]; · iexact Hs
    isplitl [Hx Hout]
    · isplitl [Hx]; · iexact Hx
      iexists g1; iexact Hout
    unfold owing; iexists W; iexact HO
  unfold done post after0 owing Dat.owesAt Pipeline.owesWithin
  rw [show (dats m ρ 0 c).owed t0_0.succ = 0 from rfl]
  iintro ⟨⟨⟨Hx, Hout⟩, Hz⟩, ⟨%W', HO⟩⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The launch's obligation for the body on device `c`. -/
theorem obligation (c : Dev nD) : BodyObligation (dats (F := F) m ρ 0 c) (defs₀ (F := F)) 𝒱₀ () Set.univ := fun t => by
  rw [fin_N0 t, bigSep_W0, bigSep_W0]
  simp only [owns_held]
  show pre m ρ c ⊢ run c (cc0_body xM (Memref.isWhole_whole _) oM (Memref.isWhole_whole _) cc0_scratch0 cc0_scratch1 cc0_scratch2 cc0_scratch3 cc0_scratch4)
    (fun _ => post m ρ c)
  rw [body_eq_program]
  exact wp_body m ρ c

/-! ## Dealing out the ghost state -/

/-- The kernel's own counters are scoped, distinct, and none of them a staging buffer's. -/
theorem ownSemFacts : Pipeline.OwnSemFacts cfg0.spec osem where
  isScoped := by decide
  inj a b h := qOf_injective (SemLoc.dma.inj h)
  disj k w s h := by
    have hq : 2 ≤ (qOf k).val := by
      rcases k with ⟨a, i⟩ | u
      · show 2 ≤ 2 + 16 * a.val + i.val; omega
      · show 2 ≤ (qOf (.inr ())).val; decide
    have hs : ∀ (w : Fin cfg0.W) (s), ((cfg0.spec w).sem s).val < 2 := by decide
    have hs := hs w s
    have := congrArg Fin.val (SemLoc.dma.inj h)
    omega

/-- Every array is held in full. -/
theorem share_full (c : Dev nD) (w : Fin cfg0.W) : (dats m ρ 0 c).share w = fullShare := by unfold Dat.share; split <;> rfl

/-- Different duties have different keys. -/
theorem jkey_injective : Function.Injective fun p : Dev nD × J => jkey p.1 p.2 := by
  rintro ⟨c, j⟩ ⟨d, l⟩ h
  have hc : c = d := by
    have := congrArg (fun x : GSem nD τ sig × ℕ × Bool => x.1.1.1) h
    rcases j with j | j <;> rcases l with l | l <;> exact this
  have h1 := congrArg (fun x : GSem nD τ sig × ℕ × Bool => x.1.2) h
  have h2 := congrArg (fun x : GSem nD τ sig × ℕ × Bool => x.2.2) h
  refine Prod.ext hc ?_
  rcases j with j | j <;> rcases l with l | l
  · exact congrArg Sum.inl (qOf_injective (SemLoc.dma.inj h1))
  · cases h1
  · cases h1
  · exact congrArg Sum.inr h2

/-- All counters of the mesh, and all duties. -/
def allCells : Finset (GSem nD τ sig) := Finset.univ.map ⟨cell, cell_injective⟩
/-- All duties of the mesh. -/
def allToks : Finset (GSem nD τ sig × ℕ × Bool) := Finset.univ.map ⟨fun p : Dev nD × J => jkey p.1 p.2, jkey_injective⟩

/-- The ghost state at launch. -/
def u₀ : UU := (initOf (Pipeline.cells cfgs cellOf_inj) (Pipeline.launchToks cfgs cellOf_inj), initOf allCells allToks)

/-- What device `c` is dealt first: its counters at round 0, its place at each, the tokens of its own counters' duties. -/
def dealt (c : Dev nD) : sProp 𝕄 :=
  iprop((bigSep Finset.univ fun k => roundState ER (sched (xin m ρ)) (cell (c, k)) 0)
    ∗ (bigSep Finset.univ fun k => iprop(atPos ER (cell (c, k)) 0 ∅ 0 ∗ reached ER (cell (c, k)) 0)) ∗ bigSep Finset.univ fun j => jtok c j)
/-- And then: the shared context, its places, the tokens of the duties it pays. -/
def mine (c : Dev nD) : sProp 𝕄 :=
  iprop((bigSep Finset.univ fun k => atPos ER (cell (c, k)) 0 ∅ 0) ∗ bigSep Finset.univ fun j => jtok (tgt c j) j)
/-- The shared context: every counter's invariant and that it has reached round 0. -/
def book (Kn : Dev nD × (K ⊕ Unit) → ℕ) : sProp 𝕄 :=
  bigSep Finset.univ fun p => iprop(cellInv ER (sched (xin m ρ)) (Kn p) (cell p) ∗ reached ER (cell p) 0)
/-- A device with the context and what is its own. -/
def dealt' (c : Dev nD) : sProp 𝕄 := iprop(∃ Kn, book m ρ Kn ∗ mine c)

/-- The context can be used any number of times. -/
instance book_persistent (Kn : Dev nD × (K ⊕ Unit) → ℕ) : BI.Persistent (book m ρ Kn) := by unfold book; infer_instance

/-- Over all counters is over the devices and each one's counters, -/
theorem over_cells (Φ : GSem nD τ sig → sProp 𝕄) :
    bigSep allCells Φ = bigSep Finset.univ fun c : Dev nD => bigSep Finset.univ fun k : K ⊕ Unit => Φ (cell (c, k)) := by
  unfold allCells; rw [bigSep_map, bigSep_univ_prod]; rfl
/-- and so over all duties. -/
theorem over_toks : bigSep allToks (fun x => (dutyTok ER x.1 x.2.1 x.2.2 : sProp 𝕄))
    = bigSep Finset.univ fun c : Dev nD => bigSep Finset.univ fun j : J => jtok c j := by
  unfold allToks; rw [bigSep_map, bigSep_univ_prod]; rfl

/-- The ghost state at launch deals every device its first share. -/
theorem fund_all : BI.own (ER (initOf allCells allToks)) ⊢ (|==> bigSep Finset.univ (dealt m ρ) : sProp 𝕄) := by
  iintro H
  imod (Rounds.fund ER (sched (xin m ρ)) allCells allToks) $$ H with ⟨Hst, Hr, Hat, Htok⟩
  imodintro
  ihave Hst := (Entails.of_eq (over_cells fun g => roundState ER (sched (xin m ρ)) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt
  simp only [bigSep_sep']
  isplitl [Hst]; · iexact Hst
  isplitl [Hat Hr]
  · isplitl [Hat] <;> iassumption
  iexact Htok

/-- The barrier's is the only counter outside the kernel. -/
theorem unscoped_eq (c : Dev nD) : (unscopedSems0 c : sProp 𝕄) = semVal (bcell c) 0 := by
  unfold unscopedSems0; rw [bigSep_eq_bigSepL_of_eq [SemLoc.reg barS] (by decide) (by decide)]; rfl

/-- The counters at zero, the kernel's own and the barrier's, are all of a device's counters at zero. -/
theorem sems_eq (c : Dev nD) :
    iprop(Pipeline.ownSems0 (Ix := Unit) (Name := ℕ) (U := UU) (Lvl := ℕ) (Val := Elt F) (τ := τ) osem c ∗ unscopedSems0 c)
      = (bigSep Finset.univ fun k : K ⊕ Unit => semVal (cell (c, k)) 0 : sProp 𝕄) := by
  rw [unscoped_eq, fam_bar]; rfl

/-- Each device's counters put under their invariants. -/
theorem alloc_dev (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched (xin m ρ)) κ (cell (c, k))))
          ∗ (bigSep Finset.univ fun k => iprop(atPos ER (cell (c, k)) 0 ∅ 0 ∗ reached ER (cell (c, k)) 0)) ∗ bigSep Finset.univ fun j => jtok c j) := by
  unfold dealt
  iintro ⟨Hos, Hus, Hst, Hat, Htok⟩
  ihave Hv := (Entails.of_eq (sems_eq (F := F) c)) $$ [Hos Hus]
  · isplitl [Hos] <;> iassumption
  imod (show iprop((bigSep Finset.univ fun k : K ⊕ Unit => semVal (cell (c, k)) 0) ∗ bigSep Finset.univ fun k => roundState ER (sched (xin m ρ)) (cell (c, k)) 0)
      ⊢ (|={Set.univ}=> bigSep Finset.univ fun k => iprop(∃ κ : ℕ, cellInv ER (sched (xin m ρ)) κ (cell (c, k))) : sProp 𝕄) from by
        rw [← bigSep_sep']
        exact (bigSep_mono fun k _ => (Rounds.body_intro ER (sched (xin m ρ)) (cell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every duty's token goes to the device that pays it. -/
theorem swap_toks : (bigSep Finset.univ fun c : Dev nD => bigSep Finset.univ fun j : J => (jtok c j : sProp 𝕄))
    = bigSep Finset.univ fun c : Dev nD => bigSep Finset.univ fun j : J => jtok (tgt c j) j := by
  rw [bigSep_univ_comm, bigSep_univ_comm (fun (c : Dev nD) (j : J) => (jtok (tgt c j) j : sProp 𝕄))]
  exact bigSep_congr fun j _ => bigSep_univ_equiv ⟨fun c => tgt c j, fun c => tgt c j, fun c => tgt_tgt c j, fun c => tgt_tgt c j⟩ fun c => jtok c j

/-- Invariants and tokens, dealt by counter, regrouped by the device that uses them. -/
theorem regroup :
    (bigSep Finset.univ fun c : Dev nD => iprop((bigSep Finset.univ fun k => iprop(∃ κ : ℕ, cellInv ER (sched (xin m ρ)) κ (cell (c, k))))
          ∗ (bigSep Finset.univ fun k => iprop(atPos ER (cell (c, k)) 0 ∅ 0 ∗ reached ER (cell (c, k)) 0)) ∗ bigSep Finset.univ fun j => jtok c j) : sProp 𝕄)
      ⊢ bigSep Finset.univ (dealt' m ρ) := by
  simp only [bigSep_sep']
  rw [← bigSep_univ_prod (fun p : Dev nD × (K ⊕ Unit) => iprop(∃ κ : ℕ, cellInv ER (sched (xin m ρ)) κ (cell p))),
    ← bigSep_univ_prod (fun p : Dev nD × (K ⊕ Unit) => (reached ER (cell p) 0 : sProp 𝕄)), swap_toks]
  iintro ⟨HI, ⟨Hat, #HR⟩, Htok⟩
  ihave HK := (BI.bigSep_exists_pi Finset.univ (fun (p : Dev nD × (K ⊕ Unit)) (κ : ℕ) => (cellInv ER (sched (xin m ρ)) κ (cell p) : sProp 𝕄))) $$ HI
  icases HK with ⟨%Kn, #HI⟩
  ihave #Hb := (show iprop((bigSep Finset.univ fun p => cellInv ER (sched (xin m ρ)) (Kn p) (cell p)) ∗ bigSep Finset.univ fun p => reached ER (cell p) 0)
    ⊢ book m ρ Kn from Entails.of_eq (bigSep_sep' _ _ _).symm) $$ []
  · isplitl <;> iassumption
  iapply (show iprop(book m ρ Kn ∗ bigSep Finset.univ fun c : Dev nD => mine c) ⊢ bigSep Finset.univ (dealt' m ρ) from
    (sep_mono_left (BI.bigSep_of_persistent Finset.univ (book m ρ Kn))).trans (by
      rw [← bigSep_sep']
      refine bigSep_mono fun c _ => ?_
      show iprop(book m ρ Kn ∗ mine c) ⊢ dealt' m ρ c
      unfold dealt'
      iintro H
      iexists Kn
      iexact H))
  isplitr; · iexact Hb
  unfold mine
  rw [bigSep_sep']
  isplitl [Hat] <;> iassumption

/-- From the counters at zero and the first shares, every device's context and own. -/
theorem deal_all : (bigSep Finset.univ fun c => iprop(Pipeline.ownSems0 (Ix := Unit) (Name := ℕ) (U := UU) (Lvl := ℕ) (Val := Elt F) (τ := τ) osem c
      ∗ unscopedSems0 c ∗ dealt m ρ c) : sProp 𝕄) ⊢ |={Set.univ}=> bigSep Finset.univ (dealt' m ρ) :=
  ((bigSep_mono fun c _ => alloc_dev m ρ c).trans (bigSep_fupd _ _)).trans (BI.fupd_mono (regroup m ρ))

/-! ## The credit a device starts with -/

/-- A sum of tallies over one device's counters, at a counter. -/
theorem sum_tally_at (f : Fin 16 → GSem nD τ sig) (hf : Function.Injective f) (i : Fin 16) (n : ℕ) :
    (∑ i ∈ Finset.univ, (tallyAt (f i) () n : CellTallies nD τ sig Unit)) (f i) () = n := by
  rw [Finset.sum_apply, Finsupp.finset_sum_apply, Finset.sum_eq_single i, tallyAt_apply, if_pos ⟨rfl, rfl⟩]
  · intro k _ hk
    rw [tallyAt_apply, if_neg fun h => hk (hf h.1).symm]
  · exact fun h => absurd (Finset.mem_univ i) h
/-- And at another counter. -/
theorem sum_tally_off (f : Fin 16 → GSem nD τ sig) (g : GSem nD τ sig) (hg : ∀ i, g ≠ f i) (n : ℕ) :
    (∑ i ∈ Finset.univ, (tallyAt (f i) () n : CellTallies nD τ sig Unit)) g () = 0 := by
  by_contra h
  obtain ⟨i, hi⟩ := sum_tally_pos (Nat.pos_of_ne_zero h)
  exact hg i hi

/-- A transfer counter tells its device and which it is, -/
theorem dcell_dev {c d : Dev nD} {k l : K} (h : dcell c k = dcell d l) : c = d ∧ k = l := by
  have := cell_injective (a₁ := (c, .inl k)) (a₂ := (d, .inl l)) h
  exact ⟨congrArg Prod.fst this, Sum.inl.inj (congrArg Prod.snd this)⟩
/-- a barrier counter its device, -/
theorem bcell_dev {c d : Dev nD} (h : bcell c = bcell d) : c = d :=
  congrArg Prod.fst (cell_injective (a₁ := (c, .inr ())) (a₂ := (d, .inr ())) h)
/-- and the two differ. -/
theorem dcell_ne_bcell (c d : Dev nD) (k : K) : dcell c k ≠ bcell d := fun h => by cases congrArg Prod.snd h

/-- A single debt, at another counter, -/
theorem tally_off {g g' : GSem nD τ sig} (h : g ≠ g') (n : ℕ) : (tallyAt g' () n : CellTallies nD τ sig Unit) g () = 0 := by
  rw [tallyAt_apply, if_neg fun h' => h h'.1]
/-- and at its own. -/
theorem tally_on (g : GSem nD τ sig) (n : ℕ) : (tallyAt g () n : CellTallies nD τ sig Unit) g () = n := by
  rw [tallyAt_apply, if_pos ⟨rfl, rfl⟩]

/-- What a device owes at the start, at one counter. -/
theorem owe0_at (d : Dev nD) (g : GSem nD τ sig) : owe0 d g () = oweX d Finset.univ g () + oweY d Finset.univ g ()
    + (tallyAt (bcell (pX d)) () 1 : CellTallies nD τ sig Unit) g () + (tallyAt (bcell (pY d)) () 1 : CellTallies nD τ sig Unit) g () := rfl

/-- What device `d` owes the barrier counter of `c`, the arrivals along `y` and along `x` of `c`. -/
theorem owe_bar (d c : Dev nD) : owe0 d (bcell c) () = (if d = pX c then 1 else 0) + (if d = pY c then 1 else 0) := by
  rw [owe0_at, oweX, oweY, sum_tally_off _ _ (fun i h => dcell_ne_bcell _ _ _ h.symm), sum_tally_off _ _ (fun i h => dcell_ne_bcell _ _ _ h.symm)]
  simp only [Nat.zero_add]
  congr 1
  · split
    · next h => rw [h, pX_pX, tally_on]
    · next h => exact tally_off (fun h' => h (by rw [bcell_dev h', pX_pX])) 1
  · split
    · next h => rw [h, pY_pY, tally_on]
    · next h => exact tally_off (fun h' => h (by rw [bcell_dev h', pY_pY])) 1
/-- The arrivals along `y` of `c` are owed by its neighbour along `y`, -/
theorem owe_Yr (d c : Dev nD) (i : Fin 16) : owe0 d (dcell c (kYr i)) () = if d = pY c then NB else 0 := by
  rw [owe0_at, oweX, oweY, tally_off (dcell_ne_bcell _ _ _), tally_off (dcell_ne_bcell _ _ _),
    sum_tally_off (fun i => dcell (pX d) (kXr i)) _ (fun j h => by cases (dcell_dev h).2)]
  simp only [Nat.zero_add, Nat.add_zero]
  split
  · next h =>
    rw [h, pY_pY]
    exact sum_tally_at (fun i => dcell c (kYr i)) (fun a b h' => by cases (dcell_dev h').2; rfl) i NB
  · next h => exact sum_tally_off _ _ (fun j h' => h (by rw [(dcell_dev h').1, pY_pY])) NB
/-- those along `x` by its neighbour along `x`. -/
theorem owe_Xr (d c : Dev nD) (i : Fin 16) : owe0 d (dcell c (kXr i)) () = if d = pX c then NB else 0 := by
  rw [owe0_at, oweX, oweY, tally_off (dcell_ne_bcell _ _ _), tally_off (dcell_ne_bcell _ _ _),
    sum_tally_off (fun i => dcell (pY d) (kYr i)) _ (fun j h => by cases (dcell_dev h).2)]
  simp only [Nat.add_zero]
  split
  · next h =>
    rw [h, pX_pX]
    exact sum_tally_at (fun i => dcell c (kXr i)) (fun a b h' => by cases (dcell_dev h').2; rfl) i NB
  · next h => exact sum_tally_off _ _ (fun j h' => h (by rw [(dcell_dev h').1, pX_pX])) NB

/-- What all devices owe a counter is the credit its device starts with. -/
theorem credit_at {g : GSem nD τ sig} {n : ℕ} (h : ∑ d : Dev nD, owe0 d g () = n) :
    tallyOn g (launchCredit (Pipeline.owing owe0) 0 g) = (tallyAt g () n : CellTallies nD τ sig Unit) := by
  unfold tallyAt; refine congrArg _ (Finsupp.ext fun u => ?_); cases u
  rw [Pipeline.launchCredit_owing, Finsupp.single_eq_same, h]

/-- Summed over the devices, what only one owes. -/
theorem sum_one (a : Dev nD) (n : ℕ) : ∑ d : Dev nD, (if d = a then n else 0) = n := by
  rw [Finset.sum_ite_eq' Finset.univ a fun _ => n, if_pos (Finset.mem_univ _)]

/-- The barrier counter starts with a credit of two, -/
theorem launch_bar (c : Dev nD) : tallyOn (bcell c) (launchCredit (Pipeline.owing owe0) 0 (bcell c)) = (tallyAt (bcell c) () 2 : CellTallies nD τ sig Unit) :=
  credit_at (by simp only [owe_bar, Finset.sum_add_distrib, sum_one])
/-- each arrival along `y` with a block's, -/
theorem launch_Yr (c : Dev nD) (i : Fin 16) :
    tallyOn (dcell c (kYr i)) (launchCredit (Pipeline.owing owe0) 0 (dcell c (kYr i))) = (tallyAt (dcell c (kYr i)) () NB : CellTallies nD τ sig Unit) :=
  credit_at (by simp only [owe_Yr, sum_one])
/-- and each along `x`. -/
theorem launch_Xr (c : Dev nD) (i : Fin 16) :
    tallyOn (dcell c (kXr i)) (launchCredit (Pipeline.owing owe0) 0 (dcell c (kXr i))) = (tallyAt (dcell c (kXr i)) () NB : CellTallies nD τ sig Unit) :=
  credit_at (by simp only [owe_Xr, sum_one])

/-- Of a family over all counters, the barrier's member and the two families of arrivals. -/
theorem pick (A B C D : Fin 16 → sProp 𝕄) (E G : sProp 𝕄) :
    iprop(((bigSep Finset.univ A ∗ bigSep Finset.univ B ∗ bigSep Finset.univ C ∗ bigSep Finset.univ D) ∗ E) ∗ G)
      ⊢ iprop(G ∗ bigSep Finset.univ B ∗ bigSep Finset.univ D) := by
  iintro ⟨⟨⟨-, HY, -, HX⟩, -⟩, HB⟩
  isplitl [HB]; · iexact HB
  isplitl [HY] <;> iassumption

/-- The credit a device starts with. -/
theorem creds (c : Dev nD) :
    (Pipeline.launchCred owe0 c : sProp 𝕄) ⊢ iprop(cred (tallyAt (bcell c) () 2) ∗ (bigSep Finset.univ fun i => cred (tallyAt (dcell c (kYr i)) () NB))
      ∗ bigSep Finset.univ fun i => cred (tallyAt (dcell c (kXr i)) () NB)) := by
  unfold Pipeline.launchCred
  have hsub : (Finset.univ : Finset (K ⊕ Unit)).map ⟨csem, csem_injective⟩ ⊆ Finset.univ := Finset.subset_univ _
  refine (bigSep_subset hsub).trans ?_
  rw [bigSep_map, fam_bar, fam, ← launch_bar c, bigSep_congr fun i _ => congrArg cred (launch_Yr c i).symm,
    bigSep_congr (Φ := fun i => cred (tallyAt (dcell c (kXr i)) () NB)) fun i _ => congrArg cred (launch_Xr c i).symm]
  exact pick _ _ _ _ _ _

/-! ## The run -/

/-- What a device has at launch is what its body starts from. -/
theorem enter (c : Dev nD) :
    iprop(Pipeline.unscopedRestP Pipeline.Prefetch.none cfg0.spec c (fun b => m ((c : Thread nD τ).loc b)) ∗ levAts L lv
        ∗ Pipeline.launchCred owe0 c ∗ prngReg c (ρ c) ∗ dealt' m ρ c)
      ⊢ |={Set.univ}=> iprop(before0 m ρ c ∗ emp) := by
  unfold dealt' before0 mine start ctx book
  iintro ⟨-, #Hl, Hcr, -, ⟨%Kn, #Hb, Hat, Htok⟩⟩
  ihave Hc := (creds (F := F) c) $$ Hcr
  imodintro
  isplitl
  · iexists Kn
    isplitr
    · isplitl; · iexact Hb
      iexact Hl
    isplitl [Hat]; · iexact Hat
    isplitl [Htok]; · iexact Htok
    iexact Hc
  · iempintro

/-- The body's start is the pipeline's first state, -/
theorem phi0 (c : Dev nD) :
    iprop(before0 m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before0 m ρ c from rfl]
  iintro ⟨Hs, -, -⟩
  iexact Hs

/-- and its end gives back every counter at zero. -/
theorem phi1 (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after0 c from rfl, scopedRest0_eq, unscoped_eq]
  unfold after0 Pipeline.ownSems0
  iintro ⟨Hz, HzB⟩
  isplitl [HzB]; · iexact HzB
  isplitl [Hz]; · iexact Hz
  iempintro

/-- The pipeline's own waits come before everything owed. -/
theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin cfg0.W) (s), ((cfg0.win w).sem s).val < 2 := by decide
    have h0 : lv ((c : Thread nD τ), .dma ((cfg0.win w).sem s)) () = 0 := by
      have := hs w s
      show (if _ then _ else _) = 0
      rw [if_neg (by omega), if_neg (by omega)]
    refine mayWait c _ ?_
    rw [h0]
    rcases t with ⟨_ | _, ht⟩
    · exact after_owe0 c
    · exact after_zero 0

/-- Window `w`'s array on device `c` after the run. -/
def finalA (c : Dev nD) (w : Fin cfg0.W) : Buf (Elt F) ((cfg0.win w).arr.view.loc (c : Thread nD τ)) := (dats m ρ 0 c).arrAt w cfg0.N

/-- Every device's arrays are as computed. -/
def Final : PUnit × MemSt nD τ sig (Elt F) → Prop := fun r =>
  ∀ c : Dev nD, ∀ w : Fin cfg0.W, r.2.mem ((cfg0.win w).arr.view.loc (c : Thread nD τ)) = finalA m ρ c w

/-- From any memory with zero counters, every fair run of the four devices ends, with every array as computed and
    every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_full m ρ)
    (hdistinct := winFacts0.arr_inj)
    (O₀ := owe0) (howed₀ := fun _ => rfl) (howedN := fun _ => rfl)
    (L := L) (lv := lv) (hL := L_of_ne) (hwaits := waits m ρ)
    (G := dealt m ρ) (G' := dealt' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := deal_all m ρ)
    (hA := fun _ _ => rfl) (hpf := fun _ k => k.elim0)
    (X := before0 m ρ) (Y := fun c => unscopedSems0 c) (Z := fun _ => iprop(emp))
    (hX := enter m ρ) (hin := phi0 m ρ) (hout := phi1 m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.A2A

end
-- ==== Proof.Value.lean ====
/-
# The value

The windows are whole arrays, so each device's result array ends holding the contents the body computed; and when the
devices' arguments are the row blocks of one array, those are its column blocks.
-/
module

public import proofs.«01_k».proof.Proof.Launch
public import Idealize.ShloMosaic.Lib.Pipeline.Value
public import Idealize.ShloMosaic.Lib.Layout

@[expose] public section

set_option maxRecDepth 16384

noncomputable section

namespace Cert.A2A

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- The one block of the argument's window is the array itself, -/
theorem emb_x (t : Fin cfg0.N) (k : XI) : (win0_0.blk t).view.emb k = k := by
  funext a; apply Fin.ext
  match a with
  | ⟨0, _⟩ => show 0 * 512 + 1 * (k (0 : Fin 2)).val = (k (0 : Fin 2)).val; omega
  | ⟨1, _⟩ => show 0 * 1024 + 1 * (k (1 : Fin 2)).val = (k (1 : Fin 2)).val; omega
/-- and so is the result's. -/
theorem emb_o (t : Fin cfg0.N) (j : OI) : (win0_1.blk t).view.emb j = j := by
  funext a; apply Fin.ext
  match a with
  | ⟨0, _⟩ => show 0 * 1024 + 1 * (j (0 : Fin 2)).val = (j (0 : Fin 2)).val; omega
  | ⟨1, _⟩ => show 0 * 512 + 1 * (j (1 : Fin 2)).val = (j (1 : Fin 2)).val; omega

/-- What the kernel finds is the argument array. -/
theorem xin_eq (c : Dev nD) : xin m ρ c = m ((c : Thread nD τ).loc main_arg0) :=
  funext fun k => (congrArg (m ((c : Thread nD τ).loc main_arg0)) (emb_x t0_0 k) :)

/-- The result array ends holding what the body computed. -/
theorem finalA_o (c : Dev nD) : finalA m ρ c (1 : Fin 2) = outG (xin m ρ) c := by
  refine (dats (F := F) m ρ 0 c).arrAt_eq_of_cover (1 : Fin 2) (outG (xin m ρ) c) (fun t _ => ?_) fun j => ⟨t0_0, flush0_1 _, ?_⟩
  · funext j
    exact (congrArg (outG (xin m ρ) c) (emb_o t j)).symm
  · have h := View.emb_mem_set (win0_1.blk t0_0).view j
    rw [emb_o] at h
    exact h

/-- The column blocks of an array are what the devices compute from its row blocks. -/
theorem outG_blocks (v : (⟨2, ![1024, 1024]⟩ : Shape).Idx → Elt F .f32) (X : Dev nD → (cc0_stg0_0 : Ref sig .tc).ty.Contents (Elt F))
    (hX : ∀ c, X c = Layout.blockN ⟨2, ![512, 1024]⟩ ⟨2, ![1024, 1024]⟩ (Layout.meshBlock [2, 2] ![[1], []] c) v) (c : Dev nD) :
    outG X c = Layout.blockN ⟨2, ![1024, 512]⟩ ⟨2, ![1024, 1024]⟩ (Layout.meshBlock [2, 2] ![[], [1]] c) v := by
  funext j
  have hr := orow_lt j
  have hcl := ocol_lt j
  have hd : (srcDev c (orow j)).val % 2 = orow j / 512 := by
    unfold srcDev
    rcases dev_cases c with hc | hc | hc | hc <;> split <;> first | omega | split
    all_goals
      simp only [pY, pX]
      omega
  unfold outG
  rw [hX]
  show v _ = v _
  refine congrArg v (funext fun a => Fin.ext ?_)
  match a with
  | ⟨0, _⟩ =>
    show ((srcDev c (orow j)).val / 1 % 2 * 1 + 0) * 512 + orow j % 512 = 0 * 1024 + orow j
    rw [Nat.div_one, hd]; omega
  | ⟨1, _⟩ =>
    show 0 * 1024 + (512 * (c.val % 2) + ocol j) % 1024 = (c.val / 1 % 2 * 1 + 0) * 512 + ocol j
    omega

/-- Every device's result array ends holding its column block of the array whose row blocks are the arguments, its
    argument is unchanged, and every counter is zero. -/
theorem run_value (v : (⟨2, ![1024, 1024]⟩ : Shape).Idx → Elt F .f32)
    (hv : ∀ c : Dev nD, m ((c.tc : Thread nD τ).loc main_arg0) = Layout.blockN ⟨2, ![512, 1024]⟩ ⟨2, ![1024, 1024]⟩ (Layout.meshBlock [2, 2] ![[1], []] c) v) :
    θ_run defs (onTc (τ := τ) (main (F := F))) ⟨m, fun _ => 0, ρ⟩ fun r => ∀ c : Dev nD,
      r.2.mem ((c.tc : Thread nD τ).loc main_v1) = Layout.blockN ⟨2, ![1024, 512]⟩ ⟨2, ![1024, 1024]⟩ (Layout.meshBlock [2, 2] ![[], [1]] c) v
        ∧ r.2.mem ((c.tc : Thread nD τ).loc main_arg0) = m ((c.tc : Thread nD τ).loc main_arg0) :=
  (θ_run defs _ _).mono (fun r h c => ⟨(h.1 c (1 : Fin 2)).trans ((finalA_o m ρ c).trans
      (outG_blocks v (xin m ρ) (fun d => (xin_eq m ρ d).trans (hv d)) c)), (h.1 c (0 : Fin 2)).trans (finalA_x m ρ c)⟩) (run_main m ρ)

/-- The arguments end unchanged and every counter zero, for any float values. -/
theorem run_frame : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun r h => ⟨fun c => (h.1 c (0 : Fin 2)).trans (finalA_x m ρ c), h.2⟩) (run_main m ρ)

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.StableHlo.Run
public import Idealize.ShloMosaic.Lib.Quiescent
public import proofs.«01_k».proof.Proof.Value

@[expose] public section

noncomputable section

namespace Cert.Proof

open Idealize.ShloMosaic Idealize.ShloMosaic.TcCoe Idealize.SL.Sem

/-- The two programs' kernels are one text. -/
theorem same_kernels : (fun p l a => Cert.Kernel.defs₀ (F := Bits) p l a) = fun p l a => Cert.KernelIdeal.defs₀ (F := Bits) p l a := by
  funext p l a
  cases p with
  | tc =>
    match l, a with
    | 0, (t, s) => rfl
  | _ => rfl

/-- The compiled kernel: every fair run ends, the arguments unchanged and every counter zero. -/
theorem frame_kernel : Cert.quiescent_Kernel := fun m ρ _ =>
  (congrArg (fun d : (p : Proc Cert.KernelIdeal.τ) → (l : Cert.KernelIdeal.Λ₀.Label) → Cert.KernelIdeal.Λ₀.Args l → _ =>
    θ_run (Pipeline.defs Cert.KernelIdeal.pcfgs fun p l a => d p l a) (onTc (τ := Cert.KernelIdeal.τ) (Cert.KernelIdeal.main (F := Bits))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) same_kernels).mpr
    (Cert.A2A.run_frame (F := Bits) m ρ)

/-- The same of the idealized kernel. -/
theorem frame_kernelIdeal : Cert.quiescent_KernelIdeal := fun m ρ _ => Cert.A2A.run_frame (F := Ideal) m ρ

/-- The reference has no operation, so every buffer ends as it was. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0) :=
  (θ_run Cert.ReferenceIdeal.defs _ _).mono (fun _ h c => h c Cert.ReferenceIdeal.main_arg0)
    (StableHlo.run_seq (by decide) (by decide) Cert.ReferenceIdeal.defs Cert.ReferenceIdeal.main (fun _ => []) (fun _ => rfl) (fun _ => trivial) m ρ)

/-- The reference's frame: it has no counters. -/
theorem frame_reference : Cert.quiescent_ReferenceIdeal := fun m ρ _ =>
  (θ_run Cert.ReferenceIdeal.defs _ _).mono (fun r h => ⟨h, sem_eq_zero_of_no_sems rfl r.2⟩) (run_reference m ρ)

/-- The kernel on four devices computes the column blocks of what the reference returns. -/
theorem value : Cert.algebraic_KernelIdeal_ReferenceIdeal := fun m ρ m' ρ' _ hm =>
  ⟨m' (((0 : Dev Cert.ReferenceIdeal.nD).tc : Thread Cert.ReferenceIdeal.nD Cert.ReferenceIdeal.τ).loc Cert.ReferenceIdeal.main_arg0),
    Cert.A2A.run_value (F := Ideal) m ρ _ hm,
    (θ_run Cert.ReferenceIdeal.defs _ _).mono (fun _ h => ⟨h 0, h 0⟩) (run_reference m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
